-- ==== Defs.lean ====
def Pre_Kernel [hPre_rows_in_table : Cert.Pre_rows_in_table.Facts] (m : (ℓ : Loc Cert.Kernel.nD Cert.Kernel.τ Cert.Kernel.sig) → Buf (Elt Bits) ℓ) : Prop :=
  ∀ c : Dev Cert.Kernel.nD,
    (Cert.Pre_rows_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_rows_in_table : Cert.Pre_rows_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_rows_in_table [hPre_rows_in_table : Cert.Pre_rows_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_rows_in_table [hReferenceIdeal : Cert.ReferenceIdeal.Facts] [hPre_rows_in_table : Cert.Pre_rows_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReference : Cert.Reference.Facts) (hReferenceIdeal : Cert.ReferenceIdeal.Facts) (hPre_rows_in_table : Cert.Pre_rows_in_table.Facts),
    quiescent_Kernel (hKernel := hKernel) (hPre_rows_in_table := hPre_rows_in_table)
    ∧ quiescent_KernelIdeal (hKernelIdeal := hKernelIdeal) (hPre_rows_in_table := hPre_rows_in_table)
    ∧ quiescent_Reference (hReference := hReference)
    ∧ quiescent_ReferenceIdeal (hReferenceIdeal := hReferenceIdeal)
    ∧ quiescent_ReferenceIdeal_pre_rows_in_table (hReferenceIdeal := hReferenceIdeal) (hPre_rows_in_table := hPre_rows_in_table)
    ∧ preserves_Kernel_KernelIdeal
    ∧ algebraic_KernelIdeal_ReferenceIdeal (hKernelIdeal := hKernelIdeal) (hReferenceIdeal := hReferenceIdeal) (hPre_rows_in_table := hPre_rows_in_table)
-- ==== Pre_rows_in_table.lean ====
abbrev S16384x26 : Shape := ⟨2, ![16384, 26]⟩
abbrev S1000000x64 : Shape := ⟨2, ![1000000, 64]⟩
abbrev S128x64 : Shape := ⟨2, ![128, 64]⟩
abbrev S_ : Shape := ⟨0, ![]⟩

class Facts : Prop where
  bcast_S_S16384x26 : S_.BroadcastsInDim S16384x26 (![] : Fin 0 → Fin S16384x26.rank)

variable [Facts]

def fn {F : FTy → Type} [FloatOps F] (main_arg0 : IVec S16384x26 32) (main_arg1 : FVec F S1000000x64 .f32) (main_arg2 : FVec F S128x64 .f32) : IVec S16384x26 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 1000000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  main_v4
-- ==== Kernel.lean ====
abbrev S16384x26 : Shape := ⟨2, ![16384, 26]⟩
abbrev S1000000x64 : Shape := ⟨2, ![1000000, 64]⟩
abbrev S128x64 : Shape := ⟨2, ![128, 64]⟩
abbrev S64x1000000 : Shape := ⟨2, ![64, 1000000]⟩
abbrev S64x128 : Shape := ⟨2, ![64, 128]⟩
abbrev S1000000x128 : Shape := ⟨2, ![1000000, 128]⟩
abbrev S64x24576 : Shape := ⟨2, ![64, 24576]⟩
abbrev S24576x128 : Shape := ⟨2, ![24576, 128]⟩
abbrev S24576x64 : Shape := ⟨2, ![24576, 64]⟩
abbrev S128x8 : Shape := ⟨2, ![128, 8]⟩
abbrev S24576x8 : Shape := ⟨2, ![24576, 8]⟩
abbrev S24576x1 : Shape := ⟨2, ![24576, 1]⟩
abbrev S26x16384 : Shape := ⟨2, ![26, 16384]⟩
abbrev S3328x128 : Shape := ⟨2, ![3328, 128]⟩
abbrev S425984x128 : Shape := ⟨2, ![425984, 128]⟩
abbrev S2x2x128 : Shape := ⟨3, ![2, 2, 128]⟩
abbrev S2 : Shape := ⟨1, ![2]⟩
abbrev S2x256x128 : Shape := ⟨3, ![2, 256, 128]⟩
abbrev S1x2x128 : Shape := ⟨3, ![1, 2, 128]⟩
abbrev S2x128 : Shape := ⟨2, ![2, 128]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S128x128 : Shape := ⟨2, ![128, 128]⟩
abbrev S1x128 : Shape := ⟨2, ![1, 128]⟩
abbrev S128 : Shape := ⟨1, ![128]⟩
abbrev S26x16384x128 : Shape := ⟨3, ![26, 16384, 128]⟩
abbrev S16384x26x128 : Shape := ⟨3, ![16384, 26, 128]⟩

abbrev nBuf : Table → Nat
  | .hbm => 11
  | .local .tc .vmem => 5
  | .local .scVector .vmem => 2
  | _ => 0

abbrev bufTy : (tb : Table) → Fin (nBuf tb) → BufTy
  | .hbm, ⟨0, _⟩ => ⟨S16384x26, .i32⟩
  | .hbm, ⟨1, _⟩ => ⟨S1000000x64, .f32⟩
  | .hbm, ⟨2, _⟩ => ⟨S128x64, .f32⟩
  | .hbm, ⟨3, _⟩ => ⟨S64x1000000, .f32⟩
  | .hbm, ⟨4, _⟩ => ⟨S64x128, .f32⟩
  | .hbm, ⟨5, _⟩ => ⟨S1000000x128, .f32⟩
  | .hbm, ⟨6, _⟩ => ⟨S26x16384, .i32⟩
  | .hbm, ⟨7, _⟩ => ⟨S3328x128, .i32⟩
  | .hbm, ⟨8, _⟩ => ⟨S425984x128, .f32⟩
  | .hbm, ⟨9, _⟩ => ⟨S26x16384x128, .f32⟩
  | .hbm, ⟨10, _⟩ => ⟨S16384x26x128, .f32⟩
  | .local .tc .vmem, ⟨0, _⟩ => ⟨S64x24576, .f32⟩
  | .local .tc .vmem, ⟨1, _⟩ => ⟨S64x24576, .f32⟩
  | .local .tc .vmem, ⟨2, _⟩ => ⟨S64x128, .f32⟩
  | .local .tc .vmem, ⟨3, _⟩ => ⟨S24576x128, .f32⟩
  | .local .tc .vmem, ⟨4, _⟩ => ⟨S24576x128, .f32⟩
  | .local .scVector .vmem, ⟨0, _⟩ => ⟨S2x2x128, .i32⟩
  | .local .scVector .vmem, ⟨1, _⟩ => ⟨S2x256x128, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v2_scv : Ref sig .scVector := ⟨.hbm, 5, rfl⟩
abbrev main_v4_scv : Ref sig .scVector := ⟨.hbm, 7, rfl⟩
abbrev main_v5_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![41], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x24576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S24576x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_15_r0 : BitVec 32 := 0#32
  let c0_i32_16_r0 : BitVec 32 := 0#32
  ![v21_r0.toNat, 0, 0]
def k1_off2 (i : grid1.Coords) : Fin 2 → Nat :=
  let c2_i32_14_r0 : BitVec 32 := 2#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v7_r0 : BitVec 32 := Scalar.addi c0_i32_1_r0 v4
  let v22_r0 : BitVec 32 := Scalar.muli c2_i32_14_r0 v7_r0
  let c0_i32_17_r0 : BitVec 32 := 0#32
  ![v22_r0.toNat, 0]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_27_r0 : BitVec 32 := 0#32
  let c52_i32_28_r0 : BitVec 32 := 52#32
  let v32_r0 : BitVec 32 := Scalar.addi c0_i32_27_r0 c52_i32_28_r0
  let c1_i32_29_r0 : BitVec 32 := 1#32
  ⟨c0_i32_27_r0, v32_r0, c1_i32_29_r0⟩
def k1_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c52_i32_62_r0 : BitVec 32 := 52#32
  let v74_r0 : BitVec 1 := Scalar.cmpi .eq v73_r0 c52_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k1_t1
  let c51_i32_68_r0 : BitVec 32 := 51#32
  let v83_r0 : BitVec 1 := Scalar.cmpi .sge arg5_r0 c51_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c2_i32_101_r0 : BitVec 32 := 2#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c52_i32_62_r0 : BitVec 32 := 52#32
  let v74_r0 : BitVec 1 := Scalar.cmpi .eq v73_r0 c52_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v76_r0 : BitVec 32 := Scalar.addi v75_r0 v4
  let v145_r0 : BitVec 32 := Scalar.muli c2_i32_101_r0 v76_r0
  let c0_i32_104_r0 : BitVec 32 := 0#32
  ![v145_r0.toNat, 0]
def k1_off6 (arg6_r0 : BitVec 32) : Fin 1 → Nat :=
  let c2_i32_100_r0 : BitVec 32 := 2#32
  let v144_r0 : BitVec 32 := Scalar.remui arg6_r0 c2_i32_100_r0
  ![v144_r0.toNat]
def k1_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c51_i32_59_r0 : BitVec 32 := 51#32
  let v70_r0 : BitVec 32 := Scalar.select v69_r0 c51_i32_59_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c2_i32_100_r0 : BitVec 32 := 2#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v66_r0 : BitVec 32 := Scalar.addi arg10_r0 v4
  let v144_r0 : BitVec 32 := Scalar.muli c2_i32_100_r0 v66_r0
  let c0_i32_104_r0 : BitVec 32 := 0#32
  ![v144_r0.toNat, 0]
def k1_off9 (arg7_r0 : BitVec 32) : Fin 1 → Nat :=
  let c2_i32_101_r0 : BitVec 32 := 2#32
  let v145_r0 : BitVec 32 := Scalar.remui arg7_r0 c2_i32_101_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_100_r1 : BitVec 32 := 0#32
  let c0_i32_101_r1 : BitVec 32 := 0#32
  ![v109_r0.toNat, 0, 0]

def k1_chk2 (arg8_r0 : BitVec 32) : Prop :=
  (∀ a, (k1_off10 arg8_r0) a + S1x256x128.size a ≤ S2x256x128.size a)
theorem k1_off10_inb : ∀ (arg8_r0 : BitVec 32) (k1_hw2 : k1_chk2 arg8_r0), ∀ a, (k1_off10 arg8_r0) a + S1x256x128.size a ≤ S2x256x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_104_r1 : BitVec 32 := 0#32
  let c0_i32_105_r1 : BitVec 32 := 0#32
  ![v108_r0.toNat, 0, 0]

def k1_chk3 (arg7_r0 : BitVec 32) : Prop :=
  (∀ a, (k1_off11 arg7_r0) a + S1x2x128.size a ≤ S2x2x128.size a)
theorem k1_off11_inb : ∀ (arg7_r0 : BitVec 32) (k1_hw3 : k1_chk3 arg7_r0), ∀ a, (k1_off11 arg7_r0) a + S1x2x128.size a ≤ S2x2x128.size a := fun arg7_r0 k1_hw3 => k1_hw3

def k1_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c52_i32_62_r0 : BitVec 32 := 52#32
  let v74_r0 : BitVec 1 := Scalar.cmpi .eq v73_r0 c52_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k1_t1
  let c51_i32_55_r0 : BitVec 32 := 51#32
  let v65_r0 : BitVec 1 := Scalar.cmpi .eq arg5_r0 c51_i32_55_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k1_off13 (i : grid1.Coords) (arg10_r0 : BitVec 32) : Fin 2 → Nat :=
  let c256_i32_101_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v66_r0 : BitVec 32 := Scalar.addi arg10_r0 v4
  let v145_r0 : BitVec 32 := Scalar.muli c256_i32_101_r0 v66_r0
  let c0_i32_104_r0 : BitVec 32 := 0#32
  ![v145_r0.toNat, 0]
def k1_off14 (arg8_r0 : BitVec 32) : Fin 1 → Nat :=
  let c2_i32_100_r0 : BitVec 32 := 2#32
  let v144_r0 : BitVec 32 := Scalar.remui arg8_r0 c2_i32_100_r0
  ![v144_r0.toNat]
def k1_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c51_i32_59_r0 : BitVec 32 := 51#32
  let v70_r0 : BitVec 32 := Scalar.select v69_r0 c51_i32_59_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k1_t1
  let c0_i32_54_r0 : BitVec 32 := 0#32
  let v64_r0 : BitVec 1 := Scalar.cmpi .eq arg5_r0 c0_i32_54_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k1_off16 (i : grid1.Coords) (arg10_r0 : BitVec 32) : Fin 2 → Nat :=
  let c256_i32_101_r0 : BitVec 32 := 256#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c51_i32_59_r0 : BitVec 32 := 51#32
  let v70_r0 : BitVec 32 := Scalar.select v69_r0 c51_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v71_r0 : BitVec 32 := Scalar.addi v70_r0 v4
  let v145_r0 : BitVec 32 := Scalar.muli c256_i32_101_r0 v71_r0
  let c0_i32_104_r0 : BitVec 32 := 0#32
  ![v145_r0.toNat, 0]
def k1_off17 (arg9_r0 : BitVec 32) : Fin 1 → Nat :=
  let c2_i32_100_r0 : BitVec 32 := 2#32
  let v144_r0 : BitVec 32 := Scalar.remui arg9_r0 c2_i32_100_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x2x128.size a ≤ S2x2x128.size a) ∧
  (∀ (k1_h1 : k1_cond1 i k1_t1 arg10_r0 = 1#1), ∀ a, (k1_off5 i arg10_r0) a + S2x128.size a ≤ S3328x128.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x2x128.size a ≤ S2x2x128.size a) ∧
  (∀ (k1_h2 : k1_cond2 i k1_t1 arg10_r0 = 1#1), ∀ a, (k1_off8 i arg10_r0) a + S2x128.size a ≤ S3328x128.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x256x128.size a ≤ S2x256x128.size a) ∧
  (∀ (k1_h5 : k1_cond5 i k1_t1 arg10_r0 = 1#1), ∀ a, (k1_off13 i arg10_r0) a + S256x128.size a ≤ S425984x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x256x128.size a ≤ S2x256x128.size a) ∧
  (∀ (k1_h7 : k1_cond7 i k1_t1 arg10_r0 = 1#1), ∀ a, (k1_off16 i arg10_r0) a + S256x128.size a ≤ S425984x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x2x128.size a ≤ S2x2x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S2x128.size a ≤ S3328x128.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x2x128.size a ≤ S2x2x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S2x128.size a ≤ S3328x128.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x256x128.size a ≤ S2x256x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S256x128.size a ≤ S425984x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x256x128.size a ≤ S2x256x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S256x128.size a ≤ S425984x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_47_r0 : BitVec 32 := 2#32
  let v54_r0 : BitVec 32 := Scalar.remui v33_3_r0 c2_i32_47_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c256_i32_r0 : BitVec 32 := 256#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c51_i32_34_r0 : BitVec 32 := 51#32
  let v37_r0 : BitVec 32 := Scalar.select v36_r0 c51_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c52_i32 : BitVec 32 := 52#32
  let v4 : BitVec 32 := Scalar.muli v3 c52_i32
  let v38_r0 : BitVec 32 := Scalar.addi v37_r0 v4
  let v55_r0 : BitVec 32 := Scalar.muli c256_i32_r0 v38_r0
  let c0_i32_50_r0 : BitVec 32 := 0#32
  ![v55_r0.toNat, 0]

def k1_chk5 (i : grid1.Coords) (v33_4_r0 : BitVec 32) : Prop :=
  (∀ a, (k1_off19 i v33_4_r0) a + S256x128.size a ≤ S425984x128.size a)
theorem k1_off19_inb : ∀ (i : grid1.Coords) (v33_4_r0 : BitVec 32) (k1_hw5 : k1_chk5 i v33_4_r0), ∀ a, (k1_off19 i v33_4_r0) a + S256x128.size a ≤ S425984x128.size a := fun i v33_4_r0 k1_hw5 => k1_hw5

def k1_off20 (v33_3_r0 : BitVec 32) : Fin 1 → Nat :=
  let c2_i32_47_r0 : BitVec 32 := 2#32
  let v54_r0 : BitVec 32 := Scalar.remui v33_3_r0 c2_i32_47_r0
  ![v54_r0.toNat]
def k1_off21 (v33_3_r0 : BitVec 32) : Fin 3 → Nat :=
  let c2_i32_47_r0 : BitVec 32 := 2#32
  let v54_r0 : BitVec 32 := Scalar.remui v33_3_r0 c2_i32_47_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x256x128.size a ≤ S2x256x128.size a) ∧
  (∀ a, (k1_off20 v33_3_r0) a + S1.size a ≤ S2.size a) ∧
  (∀ a, (k1_off21 v33_3_r0) a + S1x256x128.size a ≤ S2x256x128.size a)
theorem k1_off18_inb : ∀ (v33_3_r0 : BitVec 32) (k1_hw4 : k1_chk4 v33_3_r0), ∀ a, (k1_off18 v33_3_r0) a + S1x256x128.size a ≤ S2x256x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x256x128.size a ≤ S2x256x128.size a := fun v33_3_r0 k1_hw4 => k1_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "eps_sq" => some ((5316911940649 / 5316911983139663491615228241121378304 : ℝ) : EReal)
  | _ => none
-- ==== Reference.lean ====
abbrev S16384x26 : Shape := ⟨2, ![16384, 26]⟩
abbrev S1000000x64 : Shape := ⟨2, ![1000000, 64]⟩
abbrev S128x64 : Shape := ⟨2, ![128, 64]⟩
abbrev S_ : Shape := ⟨0, ![]⟩
abbrev S16384x26x1 : Shape := ⟨3, ![16384, 26, 1]⟩
abbrev S1 : Shape := ⟨1, ![1]⟩
abbrev S1x1x1 : Shape := ⟨3, ![1, 1, 1]⟩
abbrev S16384x26x64 : Shape := ⟨3, ![16384, 26, 64]⟩
abbrev S64x128 : Shape := ⟨2, ![64, 128]⟩
abbrev S16384x26x128 : Shape := ⟨3, ![16384, 26, 128]⟩

abbrev nBuf : Space → Nat
  | .hbm => 38
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S1000000x64, .f32⟩
  | .hbm, ⟨2, _⟩ => ⟨S128x64, .f32⟩
  | .hbm, ⟨3, _⟩ => ⟨S_, .i32⟩
  | .hbm, ⟨4, _⟩ => ⟨S16384x26, .i32⟩
  | .hbm, ⟨5, _⟩ => ⟨S16384x26, .i1⟩
  | .hbm, ⟨6, _⟩ => ⟨S_, .i32⟩
  | .hbm, ⟨7, _⟩ => ⟨S16384x26, .i32⟩
  | .hbm, ⟨8, _⟩ => ⟨S16384x26, .i32⟩
  | .hbm, ⟨9, _⟩ => ⟨S16384x26, .i32⟩
  | .hbm, ⟨10, _⟩ => ⟨S16384x26x1, .i32⟩
  | .hbm, ⟨11, _⟩ => ⟨S1, .i32⟩
  | .hbm, ⟨12, _⟩ => ⟨S_, .i32⟩
  | .hbm, ⟨13, _⟩ => ⟨S16384x26x1, .i32⟩
  | .hbm, ⟨14, _⟩ => ⟨S16384x26x1, .i1⟩
  | .hbm, ⟨15, _⟩ => ⟨S1x1x1, .i32⟩
  | .hbm, ⟨16, _⟩ => ⟨S16384x26x1, .i32⟩
  | .hbm, ⟨17, _⟩ => ⟨S16384x26x1, .i1⟩
  | .hbm, ⟨18, _⟩ => ⟨S16384x26x1, .i1⟩
  | .hbm, ⟨19, _⟩ => ⟨S_, .i1⟩
  | .hbm, ⟨20, _⟩ => ⟨S16384x26, .i1⟩
  | .hbm, ⟨21, _⟩ => ⟨S16384x26x64, .f32⟩
  | .hbm, ⟨22, _⟩ => ⟨S16384x26x64, .i1⟩
  | .hbm, ⟨23, _⟩ => ⟨S_, .f32⟩
  | .hbm, ⟨24, _⟩ => ⟨S16384x26x64, .f32⟩
  | .hbm, ⟨25, _⟩ => ⟨S16384x26x64, .f32⟩
  | .hbm, ⟨26, _⟩ => ⟨S64x128, .f32⟩
  | .hbm, ⟨27, _⟩ => ⟨S16384x26x128, .f32⟩
  | .hbm, ⟨28, _⟩ => ⟨S16384x26x128, .f32⟩
  | .hbm, ⟨29, _⟩ => ⟨S_, .f32⟩
  | .hbm, ⟨30, _⟩ => ⟨S16384x26, .f32⟩
  | .hbm, ⟨31, _⟩ => ⟨S16384x26x1, .f32⟩
  | .hbm, ⟨32, _⟩ => ⟨S16384x26x1, .f32⟩
  | .hbm, ⟨33, _⟩ => ⟨S_, .f32⟩
  | .hbm, ⟨34, _⟩ => ⟨S16384x26x1, .f32⟩
  | .hbm, ⟨35, _⟩ => ⟨S16384x26x1, .f32⟩
  | .hbm, ⟨36, _⟩ => ⟨S16384x26x128, .f32⟩
  | .hbm, ⟨37, _⟩ => ⟨S16384x26x128, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_call1_v0 : Ref sig .tc := ⟨.hbm, 28, rfl⟩
abbrev main_call1_cst : Ref sig .tc := ⟨.hbm, 29, rfl⟩
abbrev main_call1_v1 : Ref sig .tc := ⟨.hbm, 30, rfl⟩
abbrev main_call1_v2 : Ref sig .tc := ⟨.hbm, 31, rfl⟩
abbrev main_v3 : Ref sig .tc := ⟨.hbm, 32, rfl⟩
abbrev main_cst : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩

abbrev nD : Nat := 1
abbrev τ : Topo := Topo.v7x

variable {F : FTy → Type} [FloatOps F]
-- ==== Proof.Words.lean ====
/- The words that the gather kernel's loop carries and computes with, as numbers. -/
module

public import proofs.«01_k».proof.Defs
public import Idealize.ShloMosaic.Lib.Tactic
public import Idealize.ShloMosaic.Lib.Scf
public import proofs.«01_k».proof.Proof.Gen.KernelIdeal
public import proofs.«01_k».proof.Proof.Gen.KernelIdeal.Skeleton

@[expose] public section

noncomputable section

namespace Cert.Proof.Words

open Cert.KernelIdeal Cert.KernelIdeal.Gen
open Idealize.ShloMosaic

/-- The number of the task on subcore `i 1` of SparseCore `i 0`. -/
abbrev wid (i : grid1.Coords) : ℕ := (i 1).val + 16 * (i 0).val

theorem wid_lt (i : grid1.Coords) : wid i < 32 := by
  have h0 : (i 0).val < 2 := (i 0).isLt
  have h1 : (i 1).val < 16 := (i 1).isLt
  unfold wid; omega

theorem trips_eq : k1_t1_loop.trips = 52 := by decide

/-- The carried words before trip `t`. -/
abbrev w6 (t : ℕ) : BitVec 32 := BitVec.ofNat 32 (min (t + 1) 52)
abbrev w7 (t : ℕ) : BitVec 32 := BitVec.ofNat 32 t
abbrev w9 (t : ℕ) : BitVec 32 := BitVec.ofNat 32 (t - 1)
abbrev w10 (t : ℕ) : BitVec 32 := BitVec.ofNat 32 (t % 52)

/-- Adding one word to both sides keeps a comparison for inequality. -/
theorem cmpi_ne_add (a b v : BitVec 32) : Scalar.cmpi .ne (Scalar.addi a v) (Scalar.addi b v) = Scalar.cmpi .ne a b := by
  have h : (a + v = b + v) ↔ a = b := BitVec.add_left_inj v
  by_cases e : a = b
  · subst e; simp [Scalar.cmpi, Scalar.addi, IntOp.cmpi, IntOp.addi]
  · have e' : ¬ (a + v = b + v) := fun h' => e (h.mp h')
    simp only [Scalar.cmpi, Scalar.addi, IntOp.cmpi, IntOp.addi]
    rw [bne_iff_ne.mpr e, bne_iff_ne.mpr e']

theorem cond1_eq (i : grid1.Coords) (t : Fin k1_t1_loop.trips) :
    k1_cond1 i t (w10 t.val) = if t.val < 51 then 1#1 else 0#1 := by
  unfold k1_cond1; simp only [cmpi_ne_add]; revert t; decide
theorem cond2_eq (i : grid1.Coords) (t : Fin k1_t1_loop.trips) : k1_cond2 i t (w10 t.val) = 1#1 := by
  unfold k1_cond2; simp only [cmpi_ne_add]; revert t; decide
theorem cond5_eq (i : grid1.Coords) (t : Fin k1_t1_loop.trips) : k1_cond5 i t (w10 t.val) = 1#1 := by
  unfold k1_cond5; simp only [cmpi_ne_add]; revert t; decide
theorem cond7_eq (i : grid1.Coords) (t : Fin k1_t1_loop.trips) :
    k1_cond7 i t (w10 t.val) = if t.val = 0 then 0#1 else 1#1 := by
  unfold k1_cond7; simp only [cmpi_ne_add]; revert t; decide

/-- The word of a task's first block. -/
theorem base_toNat (i : grid1.Coords) :
    (Scalar.muli (Scalar.addi (Scalar.addi 0#32 (Scalar.muli (BitVec.ofNat 32 (i 1).val) 1#32)) (Scalar.muli (BitVec.ofNat 32 (i 0).val) 16#32)) 52#32)
      = BitVec.ofNat 32 (52 * wid i) := by
  have h0 : (i 0).val < 2 := (i 0).isLt
  have h1 : (i 1).val < 16 := (i 1).isLt
  apply BitVec.eq_of_toNat_eq
  simp only [Scalar.muli, Scalar.addi, IntOp.muli, IntOp.addi, BitVec.toNat_mul, BitVec.toNat_add, BitVec.toNat_ofNat, wid]
  omega

theorem rem2 (n : ℕ) (h : n < 1000) : (Scalar.remui (BitVec.ofNat 32 n) 2#32).toNat = n % 2 := by
  have h' : n < 2 ^ 32 := by omega
  have e : (Scalar.remui (BitVec.ofNat 32 n) 2#32) = BitVec.ofNat 32 n % 2#32 := by simp [Scalar.remui, IntOp.remui]
  rw [e, BitVec.toNat_umod, BitVec.toNat_ofNat, BitVec.toNat_ofNat, Nat.mod_eq_of_lt h']

theorem off4_eq (t : ℕ) (h : t < 51) : k1_off4 (w6 t) = ![(t + 1) % 2, 0, 0] := by
  unfold k1_off4 w6; simp only []; rw [rem2 _ (by omega)]; congr 1; omega
theorem off6_eq (t : ℕ) (h : t < 51) : k1_off6 (w6 t) = ![(t + 1) % 2] := by
  unfold k1_off6 w6; simp only []; rw [rem2 _ (by omega)]; congr 1; omega
theorem off7_eq (t : ℕ) (h : t < 52) : k1_off7 (w7 t) = ![t % 2, 0, 0] := by
  unfold k1_off7 w7; simp only []; rw [rem2 _ (by omega)]
theorem off9_eq (t : ℕ) (h : t < 52) : k1_off9 (w7 t) = ![t % 2] := by
  unfold k1_off9 w7; simp only []; rw [rem2 _ (by omega)]
theorem off10_eq (t : ℕ) (h : t < 52) : k1_off10 (w7 t) = ![t % 2, 0, 0] := by
  unfold k1_off10 w7; simp only []; rw [rem2 _ (by omega)]
theorem off11_eq (t : ℕ) (h : t < 52) : k1_off11 (w7 t) = ![t % 2, 0, 0] := by
  unfold k1_off11 w7; simp only []; rw [rem2 _ (by omega)]
theorem off12_eq (t : ℕ) (h : t < 52) : k1_off12 (w7 t) = ![t % 2, 0, 0] := by
  unfold k1_off12 w7; simp only []; rw [rem2 _ (by omega)]
theorem off14_eq (t : ℕ) (h : t < 52) : k1_off14 (w7 t) = ![t % 2] := by
  unfold k1_off14 w7; simp only []; rw [rem2 _ (by omega)]
theorem off15_eq (t : ℕ) (h : t < 52) : k1_off15 (w9 t) = ![(t - 1) % 2, 0, 0] := by
  unfold k1_off15 w9; simp only []; rw [rem2 _ (by omega)]
theorem off17_eq (t : ℕ) (h : t < 52) : k1_off17 (w9 t) = ![(t - 1) % 2] := by
  unfold k1_off17 w9; simp only []; rw [rem2 _ (by omega)]
theorem off18_eq : k1_off18 (w9 52) = ![1, 0, 0] := by unfold k1_off18 w9; simp only []; rw [rem2 _ (by omega)]
theorem off20_eq : k1_off20 (w9 52) = ![1] := by unfold k1_off20 w9; simp only []; rw [rem2 _ (by omega)]
theorem off21_eq : k1_off21 (w9 52) = ![1, 0, 0] := by unfold k1_off21 w9; simp only []; rw [rem2 _ (by omega)]
theorem off1_eq : k1_off1 = ![0, 0, 0] := by unfold k1_off1; simp only []; congr 1
theorem off3_eq : k1_off3 = ![0] := by unfold k1_off3; simp only []; congr 1

/-- A scaled block word as a number, small enough not to wrap. -/
theorem scaled_toNat (k a b : ℕ) (h : k * (a + b) < 2 ^ 32) (ha : a + b < 2 ^ 32) (hk : k < 2 ^ 32) :
    (Scalar.muli (BitVec.ofNat 32 k) (Scalar.addi (BitVec.ofNat 32 a) (BitVec.ofNat 32 b))).toNat = k * (a + b) := by
  simp only [Scalar.muli, Scalar.addi, IntOp.muli, IntOp.addi, BitVec.toNat_mul, BitVec.toNat_add, BitVec.toNat_ofNat]
  rw [Nat.mod_eq_of_lt hk, ← Nat.add_mod, Nat.mod_eq_of_lt ha, Nat.mod_eq_of_lt h]

/-- The step before, as the kernel wraps it. -/
theorem prev_eq (t : ℕ) (h : t < 52) (h0 : t ≠ 0) :
    Scalar.select (Scalar.cmpi .eq (Scalar.select 1#1 (Scalar.subi (w10 t) 1#32) (w10 t)) 4294967295#32) 51#32
      (Scalar.select 1#1 (Scalar.subi (w10 t) 1#32) (w10 t)) = BitVec.ofNat 32 (t - 1) := by
  have key : ∀ t : Fin 52, t.val ≠ 0 → Scalar.select (Scalar.cmpi .eq (Scalar.select 1#1 (Scalar.subi (w10 t.val) 1#32) (w10 t.val)) 4294967295#32) 51#32
      (Scalar.select 1#1 (Scalar.subi (w10 t.val) 1#32) (w10 t.val)) = BitVec.ofNat 32 (t.val - 1) := by decide
  exact key ⟨t, h⟩ h0
theorem prev_end :
    Scalar.select (Scalar.cmpi .eq (Scalar.select 1#1 (Scalar.subi (w10 52) 1#32) (w10 52)) 4294967295#32) 51#32
      (Scalar.select 1#1 (Scalar.subi (w10 52) 1#32) (w10 52)) = BitVec.ofNat 32 51 := by decide
/-- The step after, as the kernel wraps it. -/
theorem next_eq (t : ℕ) (h : t < 52) :
    Scalar.select (Scalar.cmpi .eq (Scalar.select 1#1 (Scalar.addi (w10 t) 1#32) (w10 t)) 52#32) 0#32
      (Scalar.select 1#1 (Scalar.addi (w10 t) 1#32) (w10 t)) = w10 (t + 1) := by
  have key : ∀ t : Fin 52, Scalar.select (Scalar.cmpi .eq (Scalar.select 1#1 (Scalar.addi (w10 t.val) 1#32) (w10 t.val)) 52#32) 0#32
      (Scalar.select 1#1 (Scalar.addi (w10 t.val) 1#32) (w10 t.val)) = w10 (t.val + 1) := by decide
  exact key ⟨t, h⟩

theorem off2_eq (i : grid1.Coords) : k1_off2 i = ![2 * (52 * wid i), 0] := by
  have hw := wid_lt i
  unfold k1_off2; simp only []; rw [base_toNat, scaled_toNat 2 0 _ (by omega) (by omega) (by omega), Nat.zero_add]
theorem off5_eq (i : grid1.Coords) (t : ℕ) (h : t < 51) : k1_off5 i (w10 t) = ![2 * (52 * wid i + (t + 1)), 0] := by
  have hw := wid_lt i
  unfold k1_off5; simp only []
  rw [base_toNat, next_eq t (by omega), scaled_toNat 2 _ _ (by omega) (by omega) (by omega)]; congr 1; omega
theorem off8_eq (i : grid1.Coords) (t : ℕ) (h : t < 52) : k1_off8 i (w10 t) = ![2 * (52 * wid i + t), 0] := by
  have hw := wid_lt i
  unfold k1_off8; simp only []
  rw [base_toNat, scaled_toNat 2 _ _ (by omega) (by omega) (by omega)]; congr 1; omega
theorem off13_eq (i : grid1.Coords) (t : ℕ) (h : t < 52) : k1_off13 i (w10 t) = ![256 * (52 * wid i + t), 0] := by
  have hw := wid_lt i
  unfold k1_off13; simp only []
  rw [base_toNat, scaled_toNat 256 _ _ (by omega) (by omega) (by omega)]; congr 1; omega
theorem off16_eq (i : grid1.Coords) (t : ℕ) (h : t < 52) (h0 : t ≠ 0) : k1_off16 i (w10 t) = ![256 * (52 * wid i + (t - 1)), 0] := by
  have hw := wid_lt i
  unfold k1_off16; simp only []
  rw [base_toNat, prev_eq t h h0, scaled_toNat 256 _ _ (by omega) (by omega) (by omega)]; congr 1; omega
theorem off19_eq (i : grid1.Coords) : k1_off19 i (w10 52) = ![256 * (52 * wid i + 51), 0] := by
  have hw := wid_lt i
  unfold k1_off19; simp only []
  rw [base_toNat, prev_end, scaled_toNat 256 _ _ (by omega) (by omega) (by omega)]; congr 1; omega

theorem chk3_of (t : ℕ) (h : t < 52) : k1_chk3 (w7 t) := by
  unfold k1_chk3; rw [off11_eq t h]; intro a
  have := Nat.mod_lt t (show 0 < 2 by decide)
  fin_cases a <;> simp [S1x2x128, S2x2x128] <;> omega
theorem chk2_of (t : ℕ) (h : t < 52) : k1_chk2 (w7 t) := by
  unfold k1_chk2; rw [off10_eq t h]; intro a
  have := Nat.mod_lt t (show 0 < 2 by decide)
  fin_cases a <;> simp [S1x256x128, S2x256x128] <;> omega

/-- A slice of one slot of a two-slot buffer is in bounds. -/
theorem slot3_inb {a b : ℕ} (n : ℕ) (h : n < 2) :
    ∀ x, (![n, 0, 0] : Fin 3 → ℕ) x + (![1, a, b] : Fin 3 → ℕ) x ≤ (![2, a, b] : Fin 3 → ℕ) x := by
  intro x; fin_cases x <;> simp <;> omega
theorem slot1_inb (n : ℕ) (h : n < 2) : ∀ x, (![n] : Fin 1 → ℕ) x + S1.size x ≤ S2.size x := by
  intro x; fin_cases x; simp [S1, S2]; omega
theorem rows2_inb (n : ℕ) (h : n < 1664) : ∀ x, (![2 * n, 0] : Fin 2 → ℕ) x + S2x128.size x ≤ S3328x128.size x := by
  intro x; fin_cases x <;> simp [S2x128, S3328x128]; omega
theorem rows256_inb (n : ℕ) (h : n < 1664) : ∀ x, (![256 * n, 0] : Fin 2 → ℕ) x + S256x128.size x ≤ S425984x128.size x := by
  intro x; fin_cases x <;> simp [S256x128, S425984x128]; omega

theorem chk1_of (i : grid1.Coords) (t : Fin k1_t1_loop.trips) :
    k1_chk1 i t (w6 t.val) (w7 t.val) (w7 t.val) (w9 t.val) (w10 t.val) := by
  have ht : t.val < 52 := trips_eq ▸ t.isLt
  have hw := wid_lt i
  unfold k1_chk1
  rw [cond1_eq, cond2_eq, cond5_eq, cond7_eq, off7_eq _ ht, off8_eq i _ ht, off9_eq _ ht, off12_eq _ ht, off13_eq i _ ht, off14_eq _ ht]
  have m2 : ∀ n, n % 2 < 2 := fun n => Nat.mod_lt n (by decide)
  refine ⟨fun h => ?_, fun h => ?_, fun h => ?_, fun _ => slot3_inb _ (m2 _), fun _ => rows2_inb _ (by omega), fun _ => slot1_inb _ (m2 _),
    fun _ => slot3_inb _ (m2 _), fun _ => rows256_inb _ (by omega), fun _ => slot1_inb _ (m2 _), fun h => ?_, fun h => ?_, fun h => ?_⟩
  · have h51 : t.val < 51 := by by_contra c; rw [if_neg c] at h; exact absurd h (by decide)
    rw [off4_eq _ h51]; exact slot3_inb _ (m2 _)
  · have h51 : t.val < 51 := by by_contra c; rw [if_neg c] at h; exact absurd h (by decide)
    rw [off5_eq i _ h51]; exact rows2_inb _ (by omega)
  · have h51 : t.val < 51 := by by_contra c; rw [if_neg c] at h; exact absurd h (by decide)
    rw [off6_eq _ h51]; exact slot1_inb _ (m2 _)
  · rw [off15_eq _ ht]; exact slot3_inb _ (m2 _)
  · have h0 : t.val ≠ 0 := fun c => by rw [if_pos c] at h; exact absurd h (by decide)
    rw [off16_eq i _ ht h0]; exact rows256_inb _ (by omega)
  · rw [off17_eq _ ht]; exact slot1_inb _ (m2 _)

theorem chk5_of (i : grid1.Coords) : k1_chk5 i (w10 52) := by
  have hw := wid_lt i
  unfold k1_chk5; rw [off19_eq]; exact rows256_inb _ (by omega)
theorem chk4_of : k1_chk4 (w9 52) := by
  unfold k1_chk4; rw [off18_eq, off20_eq, off21_eq]
  exact ⟨slot3_inb _ (by decide), slot1_inb _ (by decide), slot3_inb _ (by decide)⟩

/-! ## The words a trip computes, and those it carries on -/

/-- The trip's number, its tests against the first and the last trip, and this block's, the last one's and the next
    one's number over the task's first `v`. -/
abbrev e5 (t : Fin k1_t1_loop.trips) : BitVec 32 := Scf.iv 0#32 1#32 t
abbrev e64 (t : Fin k1_t1_loop.trips) : BitVec 1 := Scalar.cmpi .eq (e5 t) 0#32
abbrev e65 (t : Fin k1_t1_loop.trips) : BitVec 1 := Scalar.cmpi .eq (e5 t) 51#32
abbrev e66 (v : BitVec 32) (t : ℕ) : BitVec 32 := Scalar.addi (w10 t) v
abbrev e71 (v : BitVec 32) (t : ℕ) : BitVec 32 :=
  Scalar.addi (Scalar.select (Scalar.cmpi .eq (Scalar.select 1#1 (Scalar.subi (w10 t) 1#32) (w10 t)) 4294967295#32) 51#32
    (Scalar.select 1#1 (Scalar.subi (w10 t) 1#32) (w10 t))) v
abbrev e76 (v : BitVec 32) (t : ℕ) : BitVec 32 :=
  Scalar.addi (Scalar.select (Scalar.cmpi .eq (Scalar.select 1#1 (Scalar.addi (w10 t) 1#32) (w10 t)) 52#32) 0#32
    (Scalar.select 1#1 (Scalar.addi (w10 t) 1#32) (w10 t))) v

theorem y6_eq (v : BitVec 32) (t : Fin k1_t1_loop.trips) :
    Scalar.select (Scalar.andi (Scalar.andi (Scalar.cmpi .ne (e66 v t.val) (e76 v t.val)) (Scalar.xori (Scalar.cmpi .sge (e5 t) 51#32) 1#1)) 1#1)
      (Scalar.addi (w6 t.val) 1#32) (w6 t.val) = w6 (t.val + 1) := by
  simp only [e66, e76, cmpi_ne_add]; revert t; decide
theorem y8_eq (v : BitVec 32) (t : Fin k1_t1_loop.trips) :
    Scalar.select (Scalar.andi (Scalar.ori (Scalar.cmpi .ne (e66 v t.val) (e76 v t.val)) (e65 t)) 1#1)
      (Scalar.addi (w7 t.val) 1#32) (w7 t.val) = w7 (t.val + 1) := by
  simp only [e66, e76, cmpi_ne_add]; revert t; decide
theorem y7_eq (v : BitVec 32) (t : Fin k1_t1_loop.trips) :
    Scalar.select (Scalar.ori (Scalar.cmpi .ne (e66 v t.val) (e76 v t.val)) (e65 t))
      (Scalar.addi (w7 t.val) 1#32) (w7 t.val) = w7 (t.val + 1) := by
  simp only [e66, e76, cmpi_ne_add]; revert t; decide
theorem y9_eq (v : BitVec 32) (t : Fin k1_t1_loop.trips) :
    Scalar.select (Scalar.andi (Scalar.andi (Scalar.cmpi .ne (e66 v t.val) (e71 v t.val)) (Scalar.xori (e64 t) 1#1)) 1#1)
      (Scalar.addi (w9 t.val) 1#32) (w9 t.val) = w9 (t.val + 1) := by
  simp only [e66, e71, cmpi_ne_add]; revert t; decide
theorem y10_eq (t : Fin k1_t1_loop.trips) :
    Scalar.select (Scalar.cmpi .eq (Scalar.select 1#1 (Scalar.addi (w10 t.val) 1#32) (w10 t.val)) 52#32) 0#32
      (Scalar.select 1#1 (Scalar.addi (w10 t.val) 1#32) (w10 t.val)) = w10 (t.val + 1) := by
  revert t; decide

end Cert.Proof.Words

end
-- ==== Proof.Setup.lean ====
/- The launch's parameters, the buffers and the pieces of them that the gather kernel's tasks address. -/
module

public import proofs.«01_k».proof.Defs
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.SC

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The pipeline's part. -/
def EP : Emb UP (MT nD τ sig (HIx 1) (Elt F) ℕ UU ℕ) := (Emb.inl : Emb UP (UP × Counters)).trans embR

/-! ## The buffers -/

abbrev aLoc (d : Dev nD) : Loc nD τ sig := (SparseCore.T d).loc main_v2
abbrev iLoc (d : Dev nD) : Loc nD τ sig := (SparseCore.T d).loc main_v4
abbrev oLoc (d : Dev nD) : Loc nD τ sig := (SparseCore.T d).loc main_v5

abbrev aV : Memref sig .scVector .hbm S1000000x128 .f32 := Memref.whole main_v2_scv
abbrev iV : Memref sig .scVector .hbm S3328x128 .i32 := Memref.whole main_v4_scv
abbrev oV : Memref sig .scVector .hbm S425984x128 .f32 := Memref.whole main_v5_scv
abbrev sI : Memref sig .scVector .vmem S2x2x128 .i32 := Memref.whole cc1_scoped0
abbrev sO : Memref sig .scVector .vmem S2x256x128 .f32 := Memref.whole cc1_scoped2

/-- Slot `n` of the index buffer, and of the row buffer. -/
abbrev idxM (n : Fin 2) : Memref sig .scVector .vmem S2x128 .i32 :=
  (sI.slice (Rect.unit (s := S2x2x128) ![n.val, 0, 0] S1x2x128.size (slot3_inb n.val n.isLt)) (fun _ => rfl)).squeeze S2x128 squeezes_S1x2x128_S2x128
abbrev outM (n : Fin 2) : Memref sig .scVector .vmem S256x128 .f32 :=
  (sO.slice (Rect.unit (s := S2x256x128) ![n.val, 0, 0] S1x256x128.size (slot3_inb n.val n.isLt)) (fun _ => rfl)).squeeze S256x128 squeezes_S1x256x128_S256x128
/-- Block `b` of the row numbers, and of the result. -/
abbrev iM (b : Fin 1664) : Memref sig .scVector .hbm S2x128 .i32 :=
  iV.slice (Rect.unit (s := S3328x128) ![2 * b.val, 0] S2x128.size (rows2_inb b.val b.isLt)) (fun _ => rfl)
abbrev oM (b : Fin 1664) : Memref sig .scVector .hbm S256x128 .f32 :=
  oV.slice (Rect.unit (s := S425984x128) ![256 * b.val, 0] S256x128.size (rows256_inb b.val b.isLt)) (fun _ => rfl)
/-- Slot `n`'s semaphore, of the index buffer and of the row buffer. -/
abbrev smI (n : Fin 2) : DmaSem sig :=
  ((cc1_scoped1.slice (Rect.unit (s := S2) ![n.val] S1.size (slot1_inb n.val n.isLt))).squeeze S_ squeezes_S1_S_).sem
abbrev smO (n : Fin 2) : DmaSem sig :=
  ((cc1_scoped3.slice (Rect.unit (s := S2) ![n.val] S1.size (slot1_inb n.val n.isLt))).squeeze S_ squeezes_S1_S_).sem

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- Slot of trip `t`. -/
def sl (t : ℕ) : Fin 2 := ⟨t % 2, Nat.mod_lt _ (by decide)⟩
/-- Trip `t`'s block of task `L`. -/
def blk (L : grid1.Coords) (t : ℕ) : Fin 1664 :=
  ⟨52 * wid L + t % 52, by have := wid_lt L; have := Nat.mod_lt t (show 0 < 52 by decide); omega⟩

theorem inb_i (fw : S3328x128.Idx → BitVec 32) (j : S3328x128.Idx) : (fw j).toNat % 1000000 < 1000000 := Nat.mod_lt _ (by decide)

/-- The result: row `j` is the table's row that word `j` of the row numbers names. -/
def want (fw : S3328x128.Idx → BitVec 32) (g : S1000000x128.Idx → F .f32) : S425984x128.Idx → F .f32 := fun j =>
  g (fun | 0 => ⟨(fw (fun | 0 => ⟨(j 0).val / 128, by have : (j 0).val < 425984 := (j 0).isLt; show _ < 3328; omega⟩
                          | 1 => ⟨(j 0).val % 128, Nat.mod_lt _ (by decide)⟩)).toNat % 1000000, inb_i _ _⟩
         | 1 => j 1)

end Cert.Proof.SC
-- ==== Proof.Rules.lean ====
/- The steps of a gather task: the fetch of a block of row numbers, the two indirect gathers, the write-out, and their
   waits, each over any offset equal to the slot's or the block's. -/
module

public import proofs.«01_k».proof.Proof.Setup

@[expose] public section

noncomputable section

namespace Cert.Proof.SC

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid1.Coords) (fw : S3328x128.Idx → BitVec 32) (g : S1000000x128.Idx → F .f32) (q : PosShare TreeShare)

/-! ## What a task holds -/

/-- Slot `n` of the index buffer, at any contents; at block `b` of the row numbers. -/
def IdxFree (n : Fin 2) : sProp 𝕄 :=
  iprop(∃ f : Buf (Elt F) ((idxM n).view.loc (thr d L)), (idxM n).view.loc (thr d L) ↦[(idxM n).view.set]{fullShare} f)
def HasIdx (n : Fin 2) (b : Fin 1664) : sProp 𝕄 :=
  iprop(∃ f : Buf (Elt F) ((idxM n).view.loc (thr d L)), ⌜∀ x, (idxM n).view.read (Elt F) f x = fw ((iM b).view.emb x)⌝
    ∗ (idxM n).view.loc (thr d L) ↦[(idxM n).view.set]{fullShare} f)
/-- Slot `n` of the row buffer, its first `k` rows those of block `b` of the result. -/
def OutUpTo (n : Fin 2) (b : Fin 1664) (k : ℕ) : sProp 𝕄 :=
  iprop(∃ f : Buf (Elt F) ((outM n).view.loc (thr d L)), ⌜∀ x : S256x128.Idx, (x 0).val < k → (outM n).view.read (Elt F) f x = want fw g ((oM b).view.emb x)⌝
    ∗ (outM n).view.loc (thr d L) ↦[(outM n).view.set]{fullShare} f)
def OutFree (n : Fin 2) : sProp 𝕄 :=
  iprop(∃ f : Buf (Elt F) ((outM n).view.loc (thr d L)), (outM n).view.loc (thr d L) ↦[(outM n).view.set]{fullShare} f)
/-- Block `b` of the row numbers. -/
def IBlk (b : Fin 1664) : sProp 𝕄 := iLoc d ↦[(iM b).view.set]{fullShare} (fw : Buf (Elt F) (iLoc d))
/-- Block `b` of the result, at any contents; at the table's rows. -/
def OBlk (b : Fin 1664) : sProp 𝕄 := iprop(∃ f : Buf (Elt F) (oLoc d), oLoc d ↦[(oM b).view.set]{fullShare} f)
def Done (b : Fin 1664) : sProp 𝕄 := oLoc d ↦[(oM b).view.set]{fullShare} (want fw g : Buf (Elt F) (oLoc d))

abbrev NI : ℕ := (idxM 0).view.dmaCredit
abbrev NO : ℕ := (oM 0).view.dmaCredit
abbrev NG : ℕ := (outM 0).view.dmaCredit / 2

/-- A fetch of block `b` into slot `n`, under way; a write-out of slot `n` to block `b`, under way. -/
def Fetching (n : Fin 2) (b : Fin 1664) : sProp 𝕄 :=
  Transfers.Flight countersEmb (thr d L) (.dma (smI n)) (default : HIx 1) NI (HasIdx (F := F) d L fw n b)
def Writing (n : Fin 2) (b : Fin 1664) : sProp 𝕄 :=
  Transfers.Flight countersEmb (thr d L) (.dma (smO n)) (default : HIx 1) NO iprop(Done (F := F) d fw g b ∗ OutFree (F := F) d L n)
abbrev SemI (n : Fin 2) : sProp 𝕄 := semVal (thr d L, .dma (smI n)) 0
abbrev SemO (n : Fin 2) : sProp 𝕄 := semVal (thr d L, .dma (smO n)) 0
abbrev SemG1 : sProp 𝕄 := semVal (thr d L, .dma cc1_scoped4.sem) 0
abbrev SemG2 : sProp 𝕄 := semVal (thr d L, .dma cc1_scoped5.sem) 0

variable (O : CellTallies nD τ sig (HIx 1)) (W : Waits sig (HIx 1))
/-- What the task owes, its own waits recorded. -/
def Ow : sProp 𝕄 := iprop(∃ W', ⌜∀ p ∈ W', p ∈ W ∨ p.2 = none⌝ ∗ owes (thr d L) O W')
abbrev MW : sProp 𝕄 := Transfers.MayWaits (thr d L) (default : HIx 1) O

theorem HasIdx.free (n : Fin 2) (b : Fin 1664) : HasIdx (F := F) d L fw n b ⊢ IdxFree d L n := by
  unfold HasIdx IdxFree; iintro ⟨%f, -, H⟩; iexists f; iexact H
theorem OutUpTo.of_free (n : Fin 2) (b : Fin 1664) : OutFree (F := F) d L n ⊢ OutUpTo d L fw g n b 0 := by
  unfold OutUpTo OutFree; iintro ⟨%f, H⟩; iexists f; isplitr
  · ipureintro; intro x h; exact absurd h (Nat.not_lt_zero _)
  · iexact H

abbrev PrgL (α : Type) : Type 1 := Prog (TpuEff nD τ sig (Elt F) Λ₀ (.scVector (cV L) (jV L))) α
abbrev wpL {α : Type} (p : PrgL (F := F) L α) (Φ : α → sProp 𝕄) : sProp 𝕄 :=
  wp frame (wpE (defs₀ (F := F)) 𝒱₀ (thr d L) none) Set.univ p Φ

variable {α : Type} {Q : α → sProp (MT nD τ sig (HIx 1) (Elt F) ℕ UU ℕ)}

theorem wp_checked {P : Prop} {dec : Decidable P} (h : P) {k : PLift P → PrgL (F := F) L α} :
    wpL d L (k ⟨h⟩) Q ⊢ wpL d L (Prog.lift (TpuEff.assume P dec) >>= k) Q := by
  exact wp_assume 𝒱₀ (thr d L) none Set.univ h
theorem wp_done (a : α) : Q a ⊢ wpL (F := F) d L (pure a) Q := by
  unfold wpL; iintro H; sl_step; iexact H

/-- The fetch of block `b` into slot `n`. -/
theorem wp_fetch (n : Fin 2) (b : Fin 1664) {o1 : Fin 3 → ℕ} {o2 : Fin 2 → ℕ} {o3 : Fin 1 → ℕ} {h1 h2 h3}
    (e1 : o1 = ![n.val, 0, 0]) (e2 : o2 = ![2 * b.val, 0]) (e3 : o3 = ![n.val]) {w1 w2 w3} {k : PUnit → PrgL (F := F) L α} :
    iprop(IBlk (F := F) d fw b ∗ IdxFree d L n ∗ SemI d L n)
      ⊢ iprop((Fetching d L fw n b -∗ wpL d L (k ⟨⟩) Q)
        -∗ wpL d L (Prog.lift (.enqueueDma (iV.slice (Rect.unit (s := S3328x128) o2 S2x128.size h2) (fun _ => rfl))
            (.here ((sI.slice (Rect.unit (s := S2x2x128) o1 S1x2x128.size h1) (fun _ => rfl)).squeeze S2x128 squeezes_S1x2x128_S2x128))
            (.dma ((cc1_scoped1.slice (Rect.unit (s := S2) o3 S1.size h3)).squeeze S_ squeezes_S1_S_).sem) w1 w2 w3) >>= k) Q) := by
  subst e1 e2 e3
  unfold IBlk IdxFree Fetching HasIdx
  iintro ⟨Hi, ⟨%f, Hs⟩, Hv⟩ Hk
  iapply (Transfers.wp_dmaLocal countersEmb 𝒱₀ (thr d L) none (src := iM b) (dst := idxM n) (hsrc := w1) (hdst := w2) (hsem := w3) (default : HIx 1) NI rfl (by decide) (Finset.Subset.refl _)) $$ [Hi Hs Hv]
  · isplitl [Hi]; · iexact Hi
    isplitl [Hs]; · iexact Hs
    iexact Hv
  iintro Hf
  iapply Hk
  iapply (Transfers.Flight_mono countersEmb (thr d L) ?_) $$ Hf
  iintro ⟨Hs, -⟩
  iexists _; isplitr
  swap; · iexact Hs
  ipureintro; intro x
  rw [View.read_write_univ]; exact (View.read_apply _ _).trans (cast_eq _ _)

/-- A wait for a fetch. -/
theorem wp_fetched (n : Fin 2) (b : Fin 1664) {o1 : Fin 3 → ℕ} {o2 : Fin 2 → ℕ} {o3 : Fin 1 → ℕ} {h1 h2 h3}
    (e3 : o3 = ![n.val]) {w1 : _} {w2 : _} {k : PUnit → PrgL (F := F) L α} :
    iprop(MW d L O ∗ Fetching (F := F) d L fw n b ∗ Ow d L O W)
      ⊢ iprop((iprop(HasIdx d L fw n b ∗ SemI d L n ∗ Ow d L O W) -∗ wpL d L (k ⟨⟩) Q)
        -∗ wpL d L (Prog.lift (.waitDma2 ((cc1_scoped1.slice (Rect.unit (s := S2) o3 S1.size h3)).squeeze S_ squeezes_S1_S_).sem
            (iV.slice (Rect.unit (s := S3328x128) o2 S2x128.size h2) (fun _ => rfl))
            ((sI.slice (Rect.unit (s := S2x2x128) o1 S1x2x128.size h1) (fun _ => rfl)).squeeze S2x128 squeezes_S1x2x128_S2x128) w1 w2) >>= k) Q) := by
  subst e3
  unfold Fetching Ow
  iintro ⟨#Hmw, Hf, ⟨%W', %hW, HO⟩⟩ Hk
  iapply (Transfers.wp_waitLocalO countersEmb 𝒱₀ (thr d L) none (hsrc := w1) (hdst := w2) (default : HIx 1) (N := NI) rfl) $$ [Hf HO]
  · isplitl [Hf]; · iexact Hf
    isplitl [HO]; · iexact HO
    iapply (Transfers.MayWaits.elim (SemLoc.dma (smI n))) $$ Hmw
  iintro ⟨HD, Hv, HO⟩
  iapply Hk
  isplitl [HD]; · iexact HD
  isplitl [Hv]; · iexact Hv
  iexists _; isplitr
  swap; · iexact HO
  ipureintro; intro p hp
  rcases Finset.mem_insert.mp hp with hp | hp
  · exact .inr (hp ▸ rfl)
  · exact hW p hp

/-- The write-out of slot `n`, all its rows the result's, to block `b`. -/
theorem wp_write (n : Fin 2) (b : Fin 1664) {o1 : Fin 3 → ℕ} {o2 : Fin 2 → ℕ} {o3 : Fin 1 → ℕ} {h1 h2 h3}
    (e1 : o1 = ![n.val, 0, 0]) (e2 : o2 = ![256 * b.val, 0]) (e3 : o3 = ![n.val]) {w1 w2 w3} {k : PUnit → PrgL (F := F) L α} :
    iprop(OBlk (F := F) d b ∗ OutUpTo d L fw g n b 256 ∗ SemO d L n)
      ⊢ iprop((Writing d L fw g n b -∗ wpL d L (k ⟨⟩) Q)
        -∗ wpL d L (Prog.lift (.enqueueDma ((sO.slice (Rect.unit (s := S2x256x128) o1 S1x256x128.size h1) (fun _ => rfl)).squeeze S256x128 squeezes_S1x256x128_S256x128)
            (.here (oV.slice (Rect.unit (s := S425984x128) o2 S256x128.size h2) (fun _ => rfl)))
            (.dma ((cc1_scoped3.slice (Rect.unit (s := S2) o3 S1.size h3)).squeeze S_ squeezes_S1_S_).sem) w1 w2 w3) >>= k) Q) := by
  subst e1 e2 e3
  unfold OBlk OutUpTo Writing Done OutFree
  iintro ⟨⟨%f, Ho⟩, ⟨%fs, %hs, Hs⟩, Hv⟩ Hk
  iapply (Transfers.wp_dmaLocal countersEmb 𝒱₀ (thr d L) none (src := outM n) (dst := oM b) (hsrc := w1) (hdst := w2) (hsem := w3) (default : HIx 1) NO rfl (by decide) (Finset.Subset.refl _)) $$ [Ho Hs Hv]
  · isplitl [Hs]; · iexact Hs
    isplitl [Ho]; · iexact Ho
    iexact Hv
  iintro Hf
  iapply Hk
  iapply (Transfers.Flight_mono countersEmb (thr d L) ?_) $$ Hf
  iintro ⟨Ho, Hs⟩
  isplitl [Ho]
  · iapply (Entails.of_eq (pointsTo_congr ?_)) $$ Ho
    intro j hj
    obtain ⟨x, -, rfl⟩ := Finset.mem_map.mp hj
    have e := View.read_write_univ (v := (oM b).view) (Val := Elt F) f ((ReadAs.same).apply ((outM n).view.read (Elt F) fs))
    have e' := congrFun e x
    rw [View.read_apply] at e'
    exact ((cast_eq _ _).symm.trans e').trans (hs x (x 0).isLt)
  · iexists _; iexact Hs

/-- A wait for a write-out. -/
theorem wp_written (n : Fin 2) (b : Fin 1664) {o1 : Fin 3 → ℕ} {o2 : Fin 2 → ℕ} {o3 : Fin 1 → ℕ} {h1 h2 h3}
    (e3 : o3 = ![n.val]) {w1 : _} {w2 : _} {k : PUnit → PrgL (F := F) L α} :
    iprop(MW d L O ∗ Writing (F := F) d L fw g n b ∗ Ow d L O W)
      ⊢ iprop((iprop(Done d fw g b ∗ OutFree d L n ∗ SemO d L n ∗ Ow d L O W) -∗ wpL d L (k ⟨⟩) Q)
        -∗ wpL d L (Prog.lift (.waitDma2 ((cc1_scoped3.slice (Rect.unit (s := S2) o3 S1.size h3)).squeeze S_ squeezes_S1_S_).sem
            ((sO.slice (Rect.unit (s := S2x256x128) o1 S1x256x128.size h1) (fun _ => rfl)).squeeze S256x128 squeezes_S1x256x128_S256x128)
            (oV.slice (Rect.unit (s := S425984x128) o2 S256x128.size h2) (fun _ => rfl)) w1 w2) >>= k) Q) := by
  subst e3
  unfold Writing Ow
  iintro ⟨#Hmw, Hf, ⟨%W', %hW, HO⟩⟩ Hk
  iapply (Transfers.wp_waitLocalO countersEmb 𝒱₀ (thr d L) none (hsrc := w1) (hdst := w2) (default : HIx 1) (N := NO) rfl) $$ [Hf HO]
  · isplitl [Hf]; · iexact Hf
    isplitl [HO]; · iexact HO
    iapply (Transfers.MayWaits.elim (SemLoc.dma (smO n))) $$ Hmw
  iintro ⟨⟨HD, Hs⟩, Hv, HO⟩
  iapply Hk
  isplitl [HD]; · iexact HD
  isplitl [Hs]; · iexact Hs
  isplitl [Hv]; · iexact Hv
  iexists _; isplitr
  swap; · iexact HO
  ipureintro; intro p hp
  rcases Finset.mem_insert.mp hp with hp | hp
  · exact .inr (hp ▸ rfl)
  · exact hW p hp

/-! ## The indirect gathers -/

/-- Row `r` of a slot's list, and the 128 rows of a slot that it fills. -/
abbrev lsM (n : Fin 2) (r : Fin 2) (h : ∀ a, (![r.val, 0] : Fin 2 → ℕ) a + S1x128.size a ≤ S2x128.size a) : Memref sig .scVector .vmem S128 .i32 :=
  ((idxM n).slice (Rect.unit (s := S2x128) ![r.val, 0] S1x128.size h) (fun _ => rfl)).squeeze S128 squeezes_S1x128_S128
abbrev winM (n : Fin 2) (r : Fin 2) (h : ∀ a, (![128 * r.val, 0] : Fin 2 → ℕ) a + S128x128.size a ≤ S256x128.size a) : Memref sig .scVector .vmem S128x128 .f32 :=
  (outM n).slice (Rect.unit (s := S256x128) ![128 * r.val, 0] S128x128.size h) (fun _ => rfl)
abbrev allM : Memref sig .scVector .hbm S1000000x128 .f32 :=
  aV.slice (Rect.unit (s := S1000000x128) ![0, 0] S1000000x128.size inb_S1000000x128_S1000000x128_0_0) (fun _ => rfl)

/-- Word `k` of row `r` of block `b`'s row numbers. -/
abbrev wordAt (b : Fin 1664) (r : Fin 2) (k : Fin 128) : S3328x128.Idx :=
  fun | 0 => ⟨2 * b.val + r.val, by show _ < 3328; omega⟩ | 1 => k

theorem reshape_row (x : S128.Idx) : Shape.reshapeEquiv (squeezes_S1x128_S128).numel_eq x = (fun | 0 => ⟨0, Nat.one_pos⟩ | 1 => x 0 : S1x128.Idx) :=
  Shape.reshapeEquiv_eq_of_rowMajor _ (by
    rw [Shape.rowMajor_val_two, Shape.rowMajor_val_one]; show 0 * 128 + (x 0).val = _; omega)

theorem list_read (n : Fin 2) (b : Fin 1664) (r : Fin 2) (h) (f : (idxM n).view.ty.Contents (Elt F))
    (hf : ∀ x, (idxM n).view.read (Elt F) f x = fw ((iM b).view.emb x)) (x : S128.Idx) :
    (lsM n r h).view.read (Elt F) f x = fw (wordAt b r (x 0)) := by
  have e : (lsM n r h).view.read (Elt F) f x
      = (idxM n).view.read (Elt F) f ((Rect.unit (s := S2x128) ![r.val, 0] S1x128.size h).emb (Shape.reshapeEquiv (squeezes_S1x128_S128).numel_eq x)) := rfl
  rw [e, hf, reshape_row]
  congr 1; funext a
  apply Fin.ext
  match a with
  | 0 => show 2 * b.val + 1 * (r.val + 1 * 0) = 2 * b.val + r.val; omega
  | 1 => show 0 + 1 * (0 + 1 * (x 0).val) = (x 0).val; omega

/-- What a gather leaves in a slot: after the first `128 r` rows, the next 128. -/
theorem gathered (n : Fin 2) (b : Fin 1664) (r : Fin 2) (h1 h2) (hw : ∀ j, (fw j).toNat < 1000000)
    (fi : (idxM n).view.ty.Contents (Elt F)) (hf : ∀ x, (idxM n).view.read (Elt F) fi x = fw ((iM b).view.emb x))
    (fo : (outM n).view.ty.Contents (Elt F)) (hfo : ∀ x : S256x128.Idx, (x 0).val < 128 * r.val → (outM n).view.read (Elt F) fo x = want fw g ((oM b).view.emb x))
    (hn : S128.numel = S128x128.size (gathers_S1000000x128_S128x128).axis') (hin) (x : S256x128.Idx) (hx : (x 0).val < 128 * (r.val + 1)) :
    (outM n).view.read (Elt F) ((winM n r h1).view.write (Elt F) fo
        (SparseCore.gatherPayload gathers_S1000000x128_S128x128 (allM.view.read (Elt F) (g : allM.view.ty.Contents (Elt F)))
          (SparseCore.rows ((lsM n r h2).view.read (Elt F) fi) hn hin)) Finset.univ) x = want fw g ((oM b).view.emb x) := by
  by_cases hx' : (x 0).val < 128 * r.val
  · rw [show (outM n).view.read (Elt F) ((winM n r h1).view.write (Elt F) fo _ Finset.univ) x = (outM n).view.read (Elt F) fo x from
      View.read_slice_write_of_not_mem (v := (outM n).view) (Rect.unit (s := S256x128) ![128 * r.val, 0] S128x128.size h1) fo _ Finset.univ ?_]
    · exact hfo x hx'
    · intro hm
      obtain ⟨y, -, rfl⟩ := Finset.mem_map.mp hm
      have : 128 * r.val + 1 * (y 0).val < 128 * r.val := hx'
      omega
  · have hb1 : (x 1).val < 128 := (x 1).isLt
    let y : S128x128.Idx := fun | 0 => ⟨(x 0).val - 128 * r.val, by show _ < 128; omega⟩ | 1 => x 1
    have hy : (Rect.unit (s := S256x128) ![128 * r.val, 0] S128x128.size h1).emb y = x := by
      funext a; apply Fin.ext
      match a with
      | 0 => show 128 * r.val + 1 * ((x 0).val - 128 * r.val) = (x 0).val; omega
      | 1 => show 0 + 1 * (x 1).val = (x 1).val; omega
    conv_lhs => rw [← hy]
    refine (View.read_slice_write_emb (v := (outM n).view) (Rect.unit (s := S256x128) ![128 * r.val, 0] S128x128.size h1) fo _ (Finset.mem_univ y)).trans ?_
    unfold SparseCore.gatherPayload want
    rw [View.read_apply]
    refine (cast_eq _ _).trans (congrArg g ?_)
    funext a; apply Fin.ext
    match a with
    | 0 =>
      show 0 + 1 * ((gathers_S1000000x128_S128x128).idx _ y (gathers_S1000000x128_S128x128).axis).val = _
      rw [Shape.Gathers.idx_axis]
      show 0 + 1 * ((lsM n r h2).view.read (Elt F) fi _).toNat = (fw _).toNat % 1000000
      rw [list_read (F := F) fw n b r h2 fi hf, Nat.mod_eq_of_lt (hw _), Nat.zero_add, Nat.one_mul]
      congr 2
      funext a; apply Fin.ext
      match a with
      | 0 =>
        show 2 * b.val + r.val = (256 * b.val + 1 * (x 0).val) / 128
        omega
      | 1 =>
        have e := Shape.rowMajor_val_one (S128.rowMajor.symm ((y 0).cast hn.symm))
        rw [Equiv.apply_symm_apply] at e
        refine e.symm.trans ?_
        show (x 0).val - 128 * r.val = (256 * b.val + 1 * (x 0).val) % 128
        omega
    | 1 =>
      show 0 + 1 * ((gathers_S1000000x128_S128x128).idx _ y 1).val = 0 + 1 * (x 1).val
      rw [Shape.Gathers.idx_of_ne _ _ _ _ (by decide)]
      rfl

/-- The table, a share of it. -/
def Tab : sProp (MT nD τ sig (HIx 1) (Elt F) ℕ UU ℕ) := aLoc d ↦{q} (g : Buf (Elt F) (aLoc d))

theorem gather_amount (n : Fin 2) (r : Fin 2) (h) (hg : S1000000x128.Gathers 0 S128x128) :
    ∑ j, ((winM n r h).slice (S128x128.rowRect hg.axis' j) (S128x128.stride_rowRect hg.axis' j)).view.dmaCredit = (winM n r h).view.dmaCredit := by
  have h0 : ∀ (h : ∀ a, (![128 * (0 : Fin 2).val, 0] : Fin 2 → ℕ) a + S128x128.size a ≤ S256x128.size a) (hg : S1000000x128.Gathers 0 S128x128),
      ∑ j, ((winM 0 0 h).slice (S128x128.rowRect hg.axis' j) (S128x128.stride_rowRect hg.axis' j)).view.dmaCredit = (winM 0 0 h).view.dmaCredit := by decide
  exact h0 (by decide) hg

/-- The gather of the 128 rows that row `r` of slot `n`'s list names into slot `n`, and its wait. -/
theorem wp_gather (n : Fin 2) (b : Fin 1664) (r : Fin 2) (sm : DmaSem sig) (hw : ∀ j, (fw j).toNat < 1000000)
    {o1 o4 : Fin 3 → ℕ} {p1 p2 : Fin 2 → ℕ} {o5 : Fin 3 → ℕ} {h1 h2 h3 h4 h5}
    (e1 : o1 = ![n.val, 0, 0]) (e4 : o4 = ![n.val, 0, 0]) (ep1 : p1 = ![128 * r.val, 0]) (ep2 : p2 = ![r.val, 0])
    {w1 w2 w3 w4 w5 w6 w7} {k : PUnit → PrgL (F := F) L α} :
    iprop(MW d L O ∗ HasIdx (F := F) d L fw n b ∗ OutUpTo d L fw g n b (128 * r.val) ∗ Tab d g q ∗ semVal (thr d L, .dma sm) 0 ∗ Ow d L O W)
      ⊢ iprop((iprop(HasIdx (F := F) d L fw n b ∗ OutUpTo d L fw g n b (128 * (r.val + 1)) ∗ Tab d g q ∗ semVal (thr d L, .dma sm) 0 ∗ Ow d L O W) -∗ wpL d L (k ⟨⟩) Q)
        -∗ wpL d L (SparseCore.enqueueIndirectGather w1 allM
            (((sO.slice (Rect.unit (s := S2x256x128) o1 S1x256x128.size h1) (fun _ => rfl)).squeeze S256x128 squeezes_S1x256x128_S256x128).slice
              (Rect.unit (s := S256x128) p1 S128x128.size h2) (fun _ => rfl)) gathers_S1000000x128_S128x128
            ((((sI.slice (Rect.unit (s := S2x2x128) o4 S1x2x128.size h3) (fun _ => rfl)).squeeze S2x128 squeezes_S1x2x128_S2x128).slice
              (Rect.unit (s := S2x128) p2 S1x128.size h4) (fun _ => rfl)).squeeze S128 squeezes_S1x128_S128) w2 sm w3 w4 w5 w6 >>= fun _ =>
          SparseCore.waitIndirectGather sm allM
            (((sO.slice (Rect.unit (s := S2x256x128) o5 S1x256x128.size h5) (fun _ => rfl)).squeeze S256x128 squeezes_S1x256x128_S256x128).slice
              (Rect.unit (s := S256x128) p1 S128x128.size h2) (fun _ => rfl)) w3 w7 >>= k) Q) := by
  subst e1 e4 ep1 ep2
  unfold HasIdx OutUpTo Tab Ow
  iintro ⟨#Hmw, ⟨%fi, %hfi, Hi⟩, ⟨%fo, %hfo, Ho⟩, Ht, Hv, ⟨%W', %hW, HO⟩⟩ Hk
  have hsi : (lsM n r h4).view.set ⊆ (idxM n).view.set := by
    refine (View.set_reshape (v := ((idxM n).slice (Rect.unit (s := S2x128) ![r.val, 0] S1x128.size h4) (fun _ => rfl)).view) _).subset.trans (View.set_slice_subset _ _)
  have hso : (winM n r h2).view.set ⊆ (outM n).view.set := View.set_slice_subset _ _
  ihave Hi := (pointsTo_split_subset hsi).1 $$ Hi
  icases Hi with ⟨Hi, Hir⟩
  ihave Ho := (pointsTo_split_subset hso).1 $$ Ho
  icases Ho with ⟨Ho, Hor⟩
  ihave Ht := (pointsTo_split_subset (Finset.subset_univ (allM).view.set)).1 $$ Ht
  icases Ht with ⟨Ht, Htr⟩
  have hin : ∀ x, ((lsM n r h4).view.read (Elt F) fi x).toNat < S1000000x128.size gathers_S1000000x128_S128x128.axis := fun x => by
    rw [list_read (F := F) fw n b r h4 fi hfi]; exact hw _
  iapply (SparseCore.wp_indirectGatherLocal countersEmb 𝒱₀ (thr d L) none (src := allM) (dst := winM n r h2) (offs := lsM n r h4) (hg := gathers_S1000000x128_S128x128) (default : HIx 1)
      (winM n r h2).view.dmaCredit (gather_amount n r h2 _) (by decide) hin) $$ [Hi Ho Ht Hv]
  · isplitl [Ht]; · iexact Ht
    isplitl [Ho]; · iexact Ho
    isplitl [Hi]; · iexact Hi
    iexact Hv
  iintro Hfl
  iapply (Transfers.wp_waitLocalO countersEmb 𝒱₀ (thr d L) none (hsrc := w3) (hdst := w7) (default : HIx 1) (N := (winM n r h2).view.dmaCredit) rfl) $$ [Hfl HO]
  · isplitl [Hfl]; · iexact Hfl
    isplitl [HO]; · iexact HO
    iapply (Transfers.MayWaits.elim (SemLoc.dma sm)) $$ Hmw
  iintro ⟨⟨Ho, Ht, Hi⟩, Hv, HO⟩
  iapply Hk
  isplitl [Hi Hir]
  · iexists fi; isplitr; · ipureintro; exact hfi
    iapply (pointsTo_split_subset hsi).2; isplitl [Hi]; · iexact Hi
    iexact Hir
  isplitl [Ho Hor]
  · iexists _; isplitr
    swap
    · iapply (pointsTo_split_subset hso).2; isplitl [Ho]; · iexact Ho
      iapply (Entails.of_eq (SparseCore.pointsTo_rest_write (c := thr d L) (v := (winM n r h2).view) _ _)) $$ Hor
    · ipureintro; intro x hx
      exact gathered (F := F) fw g n b r h2 h4 hw fi hfi fo hfo _ hin x hx
  isplitl [Ht Htr]
  · iapply (pointsTo_split_subset (Finset.subset_univ (allM).view.set)).2; isplitl [Ht]; · iexact Ht
    iexact Htr
  isplitl [Hv]; · iexact Hv
  iexists _; isplitr
  swap; · iexact HO
  ipureintro; intro p hp
  rcases Finset.mem_insert.mp hp with hp | hp
  · exact .inr (hp ▸ rfl)
  · exact hW p hp

end Cert.Proof.SC
-- ==== Proof.Tile.lean ====
/- A gather task: the parts of a trip of its loop, the loop, and the task. -/
module

public import proofs.«01_k».proof.Proof.Rules

@[expose] public section

noncomputable section

namespace Cert.Proof.SC

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid1.Coords) (fw : S3328x128.Idx → BitVec 32) (g : S1000000x128.Idx → F .f32) (q : PosShare TreeShare)
variable (O : CellTallies nD τ sig (HIx 1)) (W : Waits sig (HIx 1))

theorem lt52 (t : Fin k1_t1_loop.trips) : t.val < 52 := trips_eq ▸ t.isLt

/-- A step of a program at its head. -/
theorem by_step {A B C : sProp 𝕄} (h : B ⊢ C) (h' : A ⊢ B) : A ⊢ C := BI.Entails.trans h' h

/-- The words of the first part of trip `t`. -/
def res1 (v : BitVec 32) (t : Fin k1_t1_loop.trips) :
    Σ' (_ : k1_chk3 (w7 t.val)) (_ : k1_chk2 (w7 t.val)) (_ : k1_chk1 L t (w6 t.val) (w7 t.val) (w7 t.val) (w9 t.val) (w10 t.val))
      (_ : BitVec 32) (_ : BitVec 1) (_ : BitVec 1) (_ : BitVec 32) (_ : BitVec 32) (_ : BitVec 32) (_ : BitVec 32), BitVec 1 :=
  ⟨chk3_of _ (lt52 t), chk2_of _ (lt52 t), chk1_of L t, e5 t, e64 t, e65 t, e66 v t.val, e71 v t.val, e76 v t.val, w6 (t.val + 1),
    Scalar.cmpi .ne (e66 v t.val) (e71 v t.val)⟩

theorem wp_part1 (v : BitVec 32) (t : Fin k1_t1_loop.trips) :
    iprop(IdxFree (F := F) d L (sl (t.val + 1)) ∗ SemI d L (sl (t.val + 1)) ∗ (if t.val < 51 then IBlk d fw (blk L (t.val + 1)) else iprop(emp)))
      ⊢ wpL d L (k1_part1 L aV (Memref.isWhole_whole _) iV (Memref.isWhole_whole _) oV (Memref.isWhole_whole _) sI (Memref.isWhole_whole _) cc1_scoped1
          sO (Memref.isWhole_whole _) cc1_scoped3 cc1_scoped4 cc1_scoped5 v 0#32 1#32 t (w6 t.val) (w7 t.val) (w7 t.val) (w9 t.val) (w10 t.val))
          fun r => iprop(⌜r = res1 L v t⌝ ∗ (if t.val < 51 then Fetching d L fw (sl (t.val + 1)) (blk L (t.val + 1))
            else iprop(IdxFree (F := F) d L (sl (t.val + 1)) ∗ SemI d L (sl (t.val + 1))))) := by
  simp only [k1_part1_eq_skeleton]; unfold k1_part1_skel
  refine by_step (wp_checked d L (chk3_of _ (lt52 t))) ?_
  refine by_step (wp_checked d L (chk2_of _ (lt52 t))) ?_
  refine by_step (wp_checked d L (chk1_of L t)) ?_
  dsimp -proj only
  by_cases h : t.val < 51
  · have hc : k1_cond1 L t (w10 t.val) = 1#1 := by rw [cond1_eq, if_pos h]
    rw [dif_pos hc, if_pos h, if_pos h]
    iintro ⟨Hf, Hv, Hb⟩
    iapply (wp_fetch d L fw (sl (t.val + 1)) (blk L (t.val + 1)) (off4_eq _ h) ((off5_eq L _ h).trans ?_) (off6_eq _ h)) $$ [Hf Hv Hb]
    · show _ = ![2 * (52 * wid L + (t.val + 1) % 52), 0]
      rw [Nat.mod_eq_of_lt (by omega : t.val + 1 < 52)]
    · isplitl [Hb]; · iexact Hb
      isplitl [Hf]; · iexact Hf
      iexact Hv
    iintro Hf
    iapply (wp_done d L)
    isplitr
    · ipureintro; rw [res1, ← y6_eq v t]
    · iexact Hf
  · have hc : ¬ k1_cond1 L t (w10 t.val) = 1#1 := by rw [cond1_eq, if_neg h]; decide
    rw [dif_neg hc, if_neg h, if_neg h]
    iintro ⟨Hf, Hv, -⟩
    iapply (wp_done d L)
    isplitr
    · ipureintro; rw [res1, ← y6_eq v t]
    · isplitl [Hf]; · iexact Hf
      iexact Hv

theorem wp_part2 (hw : ∀ j, (fw j).toNat < 1000000) (t : Fin k1_t1_loop.trips) (h3 h2 h1) (a5 : BitVec 32) (v64 : BitVec 1) (v66 v71 : BitVec 32) (v96 : BitVec 1) :
    iprop(MW d L O ∗ Fetching (F := F) d L fw (sl t.val) (blk L t.val) ∗ OutFree d L (sl t.val) ∗ Tab d g q ∗ SemG1 d L ∗ Ow d L O W)
      ⊢ wpL d L (k1_part2 L aV (Memref.isWhole_whole _) iV (Memref.isWhole_whole _) oV (Memref.isWhole_whole _) sI (Memref.isWhole_whole _) cc1_scoped1
          sO (Memref.isWhole_whole _) cc1_scoped3 cc1_scoped4 cc1_scoped5 t (w6 t.val) (w7 t.val) (w7 t.val) (w9 t.val) (w10 t.val) h3 h2 h1 a5 v64 v66 v71 v96)
          fun _ => iprop(HasIdx (F := F) d L fw (sl t.val) (blk L t.val) ∗ SemI d L (sl t.val) ∗ OutUpTo d L fw g (sl t.val) (blk L t.val) 128
            ∗ Tab d g q ∗ SemG1 d L ∗ Ow d L O W) := by
  simp only [k1_part2_eq_skeleton]; unfold k1_part2_skel
  dsimp -proj only
  have hc : k1_cond2 L t (w10 t.val) = 1#1 := cond2_eq L t
  rw [dif_pos hc, ite_self]
  iintro ⟨#Hmw, Hf, Ho, Ht, Hg, HO⟩
  iapply (wp_fetched d L fw O W (sl t.val) (blk L t.val) (off9_eq _ (lt52 t))) $$ [Hf HO]
  · isplitr; · iexact Hmw
    isplitl [Hf]; · iexact Hf
    iexact HO
  iintro ⟨Hi, Hv, HO⟩
  ihave Ho := (OutUpTo.of_free d L fw g (sl t.val) (blk L t.val)) $$ Ho
  iapply (wp_gather d L fw g q O W (sl t.val) (blk L t.val) 0 cc1_scoped4.sem hw (off10_eq _ (lt52 t)) (off11_eq _ (lt52 t)) rfl rfl) $$ [Hi Ho Ht Hg HO]
  · isplitr; · iexact Hmw
    isplitl [Hi]; · iexact Hi
    isplitl [Ho]; · iexact Ho
    isplitl [Ht]; · iexact Ht
    isplitl [Hg]; · iexact Hg
    iexact HO
  iintro ⟨Hi, Ho, Ht, Hg, HO⟩
  iapply (wp_done d L)
  isplitl [Hi]; · iexact Hi
  isplitl [Hv]; · iexact Hv
  isplitl [Ho]; · iexact Ho
  isplitl [Ht]; · iexact Ht
  isplitl [Hg]; · iexact Hg
  iexact HO

theorem wp_part3 (hw : ∀ j, (fw j).toNat < 1000000) (v : BitVec 32) (t : Fin k1_t1_loop.trips) (h3 h2 h1) :
    iprop(MW d L O ∗ HasIdx (F := F) d L fw (sl t.val) (blk L t.val) ∗ OutUpTo d L fw g (sl t.val) (blk L t.val) 128 ∗ Tab d g q ∗ SemG2 d L ∗ Ow d L O W
        ∗ OBlk d (blk L t.val) ∗ SemO d L (sl t.val))
      ⊢ wpL d L (k1_part3 L aV (Memref.isWhole_whole _) iV (Memref.isWhole_whole _) oV (Memref.isWhole_whole _) sI (Memref.isWhole_whole _) cc1_scoped1
          sO (Memref.isWhole_whole _) cc1_scoped3 cc1_scoped4 cc1_scoped5 t (w6 t.val) (w7 t.val) (w7 t.val) (w9 t.val) (w10 t.val) h3 h2 h1
          (e64 t) (e65 t) (e66 v t.val) (e71 v t.val) (e76 v t.val))
          fun r => iprop(⌜r.1 = w7 (t.val + 1)⌝ ∗ HasIdx (F := F) d L fw (sl t.val) (blk L t.val) ∗ Tab d g q ∗ SemG2 d L ∗ Ow d L O W
            ∗ Writing d L fw g (sl t.val) (blk L t.val)) := by
  simp only [k1_part3_eq_skeleton]; unfold k1_part3_skel
  dsimp -proj only
  have hc : k1_cond5 L t (w10 t.val) = 1#1 := cond5_eq L t
  rw [dif_pos hc, ite_self]
  iintro ⟨#Hmw, Hi, Ho, Ht, Hg, HO, Hb, Hs⟩
  iapply (wp_gather d L fw g q O W (sl t.val) (blk L t.val) 1 cc1_scoped5.sem hw (off10_eq _ (lt52 t)) (off11_eq _ (lt52 t)) rfl rfl) $$ [Hi Ho Ht Hg HO]
  · isplitr; · iexact Hmw
    isplitl [Hi]; · iexact Hi
    isplitl [Ho]; · iexact Ho
    isplitl [Ht]; · iexact Ht
    isplitl [Hg]; · iexact Hg
    iexact HO
  iintro ⟨Hi, Ho, Ht, Hg, HO⟩
  iapply (wp_write d L fw g (sl t.val) (blk L t.val) (off12_eq _ (lt52 t)) ((off13_eq L _ (lt52 t)).trans ?_) (off14_eq _ (lt52 t))) $$ [Hb Ho Hs]
  · show _ = ![256 * (52 * wid L + t.val % 52), 0]
    rw [Nat.mod_eq_of_lt (lt52 t)]
  · isplitl [Hb]; · iexact Hb
    isplitl [Ho]; · iexact Ho
    iexact Hs
  iintro Hf
  iapply (wp_done d L)
  isplitr; · ipureintro; exact y8_eq v t
  isplitl [Hi]; · iexact Hi
  isplitl [Ht]; · iexact Ht
  isplitl [Hg]; · iexact Hg
  isplitl [HO]; · iexact HO
  iexact Hf

end Cert.Proof.SC
-- ==== Proof.Loop.lean ====
/- A gather task: its loop, and the task. -/
module

public import proofs.«01_k».proof.Proof.Tile

@[expose] public section

noncomputable section

namespace Cert.Proof.SC

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid1.Coords) (fw : S3328x128.Idx → BitVec 32) (g : S1000000x128.Idx → F .f32) (q : PosShare TreeShare)
variable (O : CellTallies nD τ sig (HIx 1)) (W : Waits sig (HIx 1))

/-! ## What a task holds before trip `t` -/

def InIdx (t : ℕ) : sProp 𝕄 :=
  iprop((if t < 52 then Fetching d L fw (sl t) (blk L t) else iprop(IdxFree (F := F) d L (sl t) ∗ SemI d L (sl t)))
    ∗ IdxFree (F := F) d L (sl (t + 1)) ∗ SemI d L (sl (t + 1)))
def InOut (t : ℕ) : sProp 𝕄 :=
  iprop((if t = 0 then iprop(OutFree (F := F) d L (sl 1) ∗ SemO d L (sl 1)) else Writing d L fw g (sl (t - 1)) (blk L (t - 1)))
    ∗ OutFree (F := F) d L (sl t) ∗ SemO d L (sl t))
def IBlks (t : ℕ) : sProp 𝕄 := bigSep (Finset.Ico t 52) fun b => IBlk d fw (blk L b)
def OBlks (t : ℕ) : sProp 𝕄 := bigSep (Finset.Ico t 52) fun b => OBlk (F := F) d (blk L b)
def Dones (t : ℕ) : sProp 𝕄 := bigSep (Finset.range t) fun b => Done (F := F) d fw g (blk L b)

def carried (t : ℕ) : BitVec 32 × BitVec 32 × BitVec 32 × BitVec 32 × BitVec 32 := (w6 t, w7 t, w7 t, w9 t, w10 t)

def St (t : ℕ) : sProp 𝕄 :=
  iprop(InIdx (F := F) d L fw t ∗ InOut d L fw g t ∗ SemG1 d L ∗ SemG2 d L ∗ Tab d g q ∗ Ow d L O W
    ∗ IBlks d L fw (t + 1) ∗ OBlks d L t ∗ Dones d L fw g (t - 1))
def Inv (t : ℕ) (acc : BitVec 32 × BitVec 32 × BitVec 32 × BitVec 32 × BitVec 32) : sProp 𝕄 :=
  iprop(⌜acc = carried t⌝ ∗ MW d L O ∗ St (F := F) d L fw g q O W t)

theorem Ico_first {t : ℕ} (h : t < 52) : Finset.Ico t 52 = insert t (Finset.Ico (t + 1) 52) := by
  ext x; simp only [Finset.mem_Ico, Finset.mem_insert]; omega
theorem Ico_first_not {t : ℕ} : t ∉ Finset.Ico (t + 1) 52 := by simp
theorem IBlks_first {t : ℕ} (h : t < 52) : IBlks (F := F) d L fw t = iprop(IBlk d fw (blk L t) ∗ IBlks d L fw (t + 1)) := by
  unfold IBlks; rw [Ico_first h, SparseCore.bigSep_insert' Ico_first_not]
theorem OBlks_first {t : ℕ} (h : t < 52) : OBlks (F := F) d L t = iprop(OBlk d (blk L t) ∗ OBlks d L (t + 1)) := by
  unfold OBlks; rw [Ico_first h, SparseCore.bigSep_insert' Ico_first_not]
theorem Dones_succ (t : ℕ) : Dones (F := F) d L fw g (t + 1) = iprop(Done d fw g (blk L t) ∗ Dones d L fw g t) := by
  unfold Dones; rw [Finset.range_add_one, SparseCore.bigSep_insert' Finset.notMem_range_self]
theorem Dones_split {t : ℕ} (h : t ≠ 0) : iprop(Done (F := F) d fw g (blk L (t - 1)) ∗ Dones d L fw g (t - 1)) ⊢ Dones d L fw g t := by
  rw [← Dones_succ, Nat.sub_add_cancel (Nat.pos_of_ne_zero h)]
theorem IBlks_next {t : ℕ} (h : t < 52) :
    IBlks (F := F) d L fw (t + 1) = iprop((if t < 51 then IBlk d fw (blk L (t + 1)) else iprop(emp)) ∗ IBlks d L fw (t + 2)) := by
  by_cases h' : t < 51
  · rw [if_pos h', IBlks_first d L fw (by omega)]
  · obtain rfl : t = 51 := by omega
    rw [if_neg h']; unfold IBlks
    rw [show Finset.Ico (51 + 1) 52 = ∅ by decide, show Finset.Ico (51 + 2) 52 = ∅ by decide]
    exact (emp_sep_eq _).symm

theorem sl_two (t : ℕ) : sl (t + 2) = sl t := by unfold sl; simp

/-- The first part's outcome is the next trip's first conjunct. -/
theorem part1_next {t : ℕ} :
    (if t < 51 then Fetching (F := F) d L fw (sl (t + 1)) (blk L (t + 1)) else iprop(IdxFree (F := F) d L (sl (t + 1)) ∗ SemI d L (sl (t + 1))))
      = if t + 1 < 52 then Fetching d L fw (sl (t + 1)) (blk L (t + 1)) else iprop(IdxFree (F := F) d L (sl (t + 1)) ∗ SemI d L (sl (t + 1))) := by
  by_cases h : t < 51
  · rw [if_pos h, if_pos (by omega)]
  · rw [if_neg h, if_neg (by omega)]

theorem wp_cut {α β : Type} {p : PrgL (F := F) L α} {k : α → PrgL (F := F) L β} {A R : sProp (MT nD τ sig (HIx 1) (Elt F) ℕ UU ℕ)} {B : α → sProp (MT nD τ sig (HIx 1) (Elt F) ℕ UU ℕ)}
    {Q : β → sProp (MT nD τ sig (HIx 1) (Elt F) ℕ UU ℕ)} (h : A ⊢ wpL d L p B) (h' : ∀ r, iprop(B r ∗ R) ⊢ wpL d L (k r) Q) :
    iprop(A ∗ R) ⊢ wpL d L (p >>= k) Q := by
  unfold wpL at *
  rw [wp_bind]
  iintro ⟨HA, HR⟩
  iapply (wp_wand_r frame (wpE (defs₀ (F := F)) 𝒱₀ (thr d L) none) Set.univ)
  isplitl [HA]
  · iapply h $$ HA
  · iintro %r HB
    iapply (h' r)
    isplitl [HB] <;> iassumption

theorem wp_cut_eq {α β : Type} {p : PrgL (F := F) L α} {k : α → PrgL (F := F) L β} {a : α} {A R B : sProp (MT nD τ sig (HIx 1) (Elt F) ℕ UU ℕ)}
    {Q : β → sProp (MT nD τ sig (HIx 1) (Elt F) ℕ UU ℕ)} (h : A ⊢ wpL d L p fun r => iprop(⌜r = a⌝ ∗ B)) (h' : iprop(B ∗ R) ⊢ wpL d L (k a) Q) :
    iprop(A ∗ R) ⊢ wpL d L (p >>= k) Q := by
  refine wp_cut d L h fun r => ?_
  iintro ⟨⟨%hr, HB⟩, HR⟩
  subst hr
  iapply h'
  isplitl [HB] <;> iassumption

theorem wp_as {α : Type} {p p' : PrgL (F := F) L α} {A : sProp (MT nD τ sig (HIx 1) (Elt F) ℕ UU ℕ)} {Q : α → sProp (MT nD τ sig (HIx 1) (Elt F) ℕ UU ℕ)}
    (h : p = p') (h' : A ⊢ wpL d L p' Q) : A ⊢ wpL d L p Q := h ▸ h'

theorem St_next (t : ℕ) :
    iprop((if t < 51 then Fetching (F := F) d L fw (sl (t + 1)) (blk L (t + 1)) else iprop(IdxFree (F := F) d L (sl (t + 1)) ∗ SemI d L (sl (t + 1))))
        ∗ IdxFree (F := F) d L (sl t) ∗ SemI d L (sl t) ∗ Writing d L fw g (sl t) (blk L t) ∗ OutFree (F := F) d L (sl (t + 1)) ∗ SemO d L (sl (t + 1))
        ∗ SemG1 d L ∗ SemG2 d L ∗ Tab d g q ∗ Ow d L O W ∗ IBlks d L fw (t + 2) ∗ OBlks d L (t + 1) ∗ Dones d L fw g t)
      ⊢ St (F := F) d L fw g q O W (t + 1) := by
  unfold St InIdx InOut
  rw [part1_next, if_neg (Nat.succ_ne_zero t), Nat.add_sub_cancel, show t + 1 + 1 = t + 2 from rfl, sl_two]
  iintro ⟨Hn, Hi, Hv, Hw, Hof, Hso, Hg1, Hg2, Ht, HO, Hbs, Hobs, Hd⟩
  isplitl [Hn Hi Hv]
  · isplitl [Hn]; · iexact Hn
    isplitl [Hi] <;> iassumption
  isplitl [Hw Hof Hso]
  · isplitl [Hw]; · iexact Hw
    isplitl [Hof] <;> iassumption
  isplitl [Hg1]; · iexact Hg1
  isplitl [Hg2]; · iexact Hg2
  isplitl [Ht]; · iexact Ht
  isplitl [HO]; · iexact HO
  isplitl [Hbs]; · iexact Hbs
  isplitl [Hobs] <;> iassumption

theorem St_open {t : ℕ} (h : t < 52) :
    St (F := F) d L fw g q O W t ⊢ iprop((Fetching d L fw (sl t) (blk L t) ∗ IdxFree (F := F) d L (sl (t + 1)) ∗ SemI d L (sl (t + 1)))
      ∗ ((if t = 0 then iprop(OutFree (F := F) d L (sl 1) ∗ SemO d L (sl 1)) else Writing d L fw g (sl (t - 1)) (blk L (t - 1)))
        ∗ OutFree (F := F) d L (sl t) ∗ SemO d L (sl t))
      ∗ SemG1 d L ∗ SemG2 d L ∗ Tab d g q ∗ Ow d L O W
      ∗ ((if t < 51 then IBlk d fw (blk L (t + 1)) else iprop(emp)) ∗ IBlks d L fw (t + 2)) ∗ (OBlk d (blk L t) ∗ OBlks d L (t + 1)) ∗ Dones d L fw g (t - 1)) := by
  unfold St InIdx InOut
  rw [if_pos h, IBlks_next d L fw h, OBlks_first d L h]

theorem wp_body (hw : ∀ j, (fw j).toNat < 1000000) (v : BitVec 32) (t : Fin k1_t1_loop.trips) (acc) :
    Inv (F := F) d L fw g q O W t.val acc
      ⊢ wpL d L (k1_t1_body L aV (Memref.isWhole_whole _) iV (Memref.isWhole_whole _) oV (Memref.isWhole_whole _) sI (Memref.isWhole_whole _) cc1_scoped1
          sO (Memref.isWhole_whole _) cc1_scoped3 cc1_scoped4 cc1_scoped5 v t acc) (Inv d L fw g q O W (t.val + 1)) := by
  unfold Inv
  iintro ⟨%hacc, #Hmw, HS⟩
  subst hacc
  ihave HS := (St_open d L fw g q O W (lt52 t)) $$ HS
  unfold k1_t1_body
  dsimp -proj only [carried]
  icases HS with ⟨⟨Hft, Hi, Hv⟩, ⟨Hwr, Ho, Hs⟩, Hg1, Hg2, Ht, HO, ⟨Hb, Hbs⟩, ⟨Hob, Hobs⟩, Hd⟩
  iapply (wp_cut_eq (F := F) d L (wp_part1 d L fw v t)
    (R := iprop(MW d L O ∗ Fetching d L fw (sl t.val) (blk L t.val)
      ∗ (if t.val = 0 then iprop(OutFree (F := F) d L (sl 1) ∗ SemO d L (sl 1)) else Writing d L fw g (sl (t.val - 1)) (blk L (t.val - 1)))
      ∗ OutFree (F := F) d L (sl t.val) ∗ SemO d L (sl t.val) ∗ SemG1 d L ∗ SemG2 d L ∗ Tab d g q ∗ Ow d L O W
      ∗ IBlks d L fw (t.val + 2) ∗ OBlk d (blk L t.val) ∗ OBlks d L (t.val + 1) ∗ Dones d L fw g (t.val - 1))) ?_)
  · refine wp_as d L (by dsimp only [res1]) ?_
    iintro ⟨Hn, #Hmw, Hft, Hwr, Ho, Hs, Hg1, Hg2, Ht, HO, Hbs, Hob, Hobs, Hd⟩
    iapply (wp_cut (F := F) d L (wp_part2 d L fw g q O W hw t _ _ _ _ _ _ _ _)
      (R := iprop(MW d L O ∗ (if t.val < 51 then Fetching (F := F) d L fw (sl (t.val + 1)) (blk L (t.val + 1)) else iprop(IdxFree (F := F) d L (sl (t.val + 1)) ∗ SemI d L (sl (t.val + 1))))
      ∗ (if t.val = 0 then iprop(OutFree (F := F) d L (sl 1) ∗ SemO d L (sl 1)) else Writing d L fw g (sl (t.val - 1)) (blk L (t.val - 1)))
      ∗ SemO d L (sl t.val) ∗ SemG2 d L
      ∗ IBlks d L fw (t.val + 2) ∗ OBlk d (blk L t.val) ∗ OBlks d L (t.val + 1) ∗ Dones d L fw g (t.val - 1))) ?_)
    · intro r
      iintro ⟨⟨Hi, Hv, Ho, Ht, Hg1, HO⟩, #Hmw, Hn, Hwr, Hs, Hg2, Hbs, Hob, Hobs, Hd⟩
      iapply (wp_cut (F := F) d L (wp_part3 d L fw g q O W hw v t _ _ _)
        (R := iprop(MW d L O ∗ (if t.val < 51 then Fetching (F := F) d L fw (sl (t.val + 1)) (blk L (t.val + 1)) else iprop(IdxFree (F := F) d L (sl (t.val + 1)) ∗ SemI d L (sl (t.val + 1))))
        ∗ (if t.val = 0 then iprop(OutFree (F := F) d L (sl 1) ∗ SemO d L (sl 1)) else Writing d L fw g (sl (t.val - 1)) (blk L (t.val - 1)))
        ∗ SemI d L (sl t.val) ∗ SemG1 d L
        ∗ IBlks d L fw (t.val + 2) ∗ OBlks d L (t.val + 1) ∗ Dones d L fw g (t.val - 1))) ?_)
      · intro r
        rw [ite_self]
        by_cases h0 : t.val = 0
        · have hc : ¬ k1_cond7 L t (w10 t.val) = 1#1 := by rw [cond7_eq, if_pos h0]; decide
          rw [dif_neg hc, if_pos h0, show sl 1 = sl (t.val + 1) by rw [h0], show t.val - 1 = t.val by omega]
          iintro ⟨⟨%hr, Hi, Ht, Hg2, HO, Hw⟩, #Hmw, Hn, Hwr, Hv, Hg1, Hbs, Hobs, Hd⟩
          ihave Hi := (HasIdx.free d L fw (sl t.val) (blk L t.val)) $$ Hi
          iapply (wp_done d L)
          icases Hwr with ⟨Hof, Hso⟩
          isplitr
          · ipureintro
            show (_, _, r.1, _, _) = _
            rw [hr, y7_eq v t, y9_eq v t, y10_eq t]
          isplitr; · iexact Hmw
          iapply (St_next d L fw g q O W t.val)
          isplitl [Hn]; · iexact Hn
          isplitl [Hi]; · iexact Hi
          isplitl [Hv]; · iexact Hv
          isplitl [Hw]; · iexact Hw
          isplitl [Hof]; · iexact Hof
          isplitl [Hso]; · iexact Hso
          isplitl [Hg1]; · iexact Hg1
          isplitl [Hg2]; · iexact Hg2
          isplitl [Ht]; · iexact Ht
          isplitl [HO]; · iexact HO
          isplitl [Hbs]; · iexact Hbs
          isplitl [Hobs]; · iexact Hobs
          iexact Hd
        · have hc : k1_cond7 L t (w10 t.val) = 1#1 := by rw [cond7_eq, if_neg h0]
          have hs : sl (t.val - 1) = sl (t.val + 1) := by rw [← sl_two (t.val - 1), show t.val - 1 + 2 = t.val + 1 by omega]
          rw [dif_pos hc, if_neg h0, hs]
          iintro ⟨⟨%hr, Hi, Ht, Hg2, HO, Hw⟩, #Hmw, Hn, Hwr, Hv, Hg1, Hbs, Hobs, Hd⟩
          ihave Hi := (HasIdx.free d L fw (sl t.val) (blk L t.val)) $$ Hi
          iapply (wp_written d L fw g O W (sl (t.val + 1)) (blk L (t.val - 1)) ((off17_eq _ (lt52 t)).trans (by rw [← hs]; rfl))) $$ [Hwr HO]
          · isplitr; · iexact Hmw
            isplitl [Hwr]; · iexact Hwr
            iexact HO
          iintro ⟨Hdn, Hof, Hso, HO⟩
          iapply (wp_done d L)
          isplitr
          · ipureintro
            show (_, _, r.1, _, _) = _
            rw [hr, y7_eq v t, y9_eq v t, y10_eq t]
          isplitr; · iexact Hmw
          iapply (St_next d L fw g q O W t.val)
          isplitl [Hn]; · iexact Hn
          isplitl [Hi]; · iexact Hi
          isplitl [Hv]; · iexact Hv
          isplitl [Hw]; · iexact Hw
          isplitl [Hof]; · iexact Hof
          isplitl [Hso]; · iexact Hso
          isplitl [Hg1]; · iexact Hg1
          isplitl [Hg2]; · iexact Hg2
          isplitl [Ht]; · iexact Ht
          isplitl [HO]; · iexact HO
          isplitl [Hbs]; · iexact Hbs
          isplitl [Hobs]; · iexact Hobs
          iapply (Dones_split d L fw g h0)
          isplitl [Hdn] <;> iassumption
      · isplitl [Hi Ho Ht Hg2 HO Hob Hs]
        · isplitr; · iexact Hmw
          isplitl [Hi]; · iexact Hi
          isplitl [Ho]; · iexact Ho
          isplitl [Ht]; · iexact Ht
          isplitl [Hg2]; · iexact Hg2
          isplitl [HO]; · iexact HO
          isplitl [Hob]; · iexact Hob
          iexact Hs
        isplitr; · iexact Hmw
        isplitl [Hn]; · iexact Hn
        isplitl [Hwr]; · iexact Hwr
        isplitl [Hv]; · iexact Hv
        isplitl [Hg1]; · iexact Hg1
        isplitl [Hbs]; · iexact Hbs
        isplitl [Hobs]; · iexact Hobs
        iexact Hd
    · isplitl [Hft Ho Ht Hg1 HO]
      · isplitr; · iexact Hmw
        isplitl [Hft]; · iexact Hft
        isplitl [Ho]; · iexact Ho
        isplitl [Ht]; · iexact Ht
        isplitl [Hg1]; · iexact Hg1
        iexact HO
      isplitr; · iexact Hmw
      isplitl [Hn]; · iexact Hn
      isplitl [Hwr]; · iexact Hwr
      isplitl [Hs]; · iexact Hs
      isplitl [Hg2]; · iexact Hg2
      isplitl [Hbs]; · iexact Hbs
      isplitl [Hob]; · iexact Hob
      isplitl [Hobs]; · iexact Hobs
      iexact Hd
  · isplitl [Hi Hv Hb]
    · isplitl [Hi]; · iexact Hi
      isplitl [Hv]; · iexact Hv
      iexact Hb
    isplitr; · iexact Hmw
    isplitl [Hft]; · iexact Hft
    isplitl [Hwr]; · iexact Hwr
    isplitl [Ho]; · iexact Ho
    isplitl [Hs]; · iexact Hs
    isplitl [Hg1]; · iexact Hg1
    isplitl [Hg2]; · iexact Hg2
    isplitl [Ht]; · iexact Ht
    isplitl [HO]; · iexact HO
    isplitl [Hbs]; · iexact Hbs
    isplitl [Hob]; · iexact Hob
    isplitl [Hobs]; · iexact Hobs
    iexact Hd

theorem wp_part4 :
    iprop(IBlk (F := F) d fw (blk L 0) ∗ IdxFree d L (sl 0) ∗ SemI d L (sl 0))
      ⊢ wpL d L (k1_part4 L aV (Memref.isWhole_whole _) iV (Memref.isWhole_whole _) oV (Memref.isWhole_whole _) sI (Memref.isWhole_whole _) cc1_scoped1
          sO (Memref.isWhole_whole _) cc1_scoped3 cc1_scoped4 cc1_scoped5) fun _ => Fetching (F := F) d L fw (sl 0) (blk L 0) := by
  simp only [k1_part4_eq_skeleton]; unfold k1_part4_skel
  dsimp -proj only
  iintro ⟨Hb, Hi, Hv⟩
  iapply (wp_fetch d L fw (sl 0) (blk L 0) off1_eq ((off2_eq L).trans rfl) off3_eq) $$ [Hb Hi Hv]
  · isplitl [Hb]; · iexact Hb
    isplitl [Hi] <;> iassumption
  iintro Hf
  iapply (wp_done d L)
  iexact Hf

theorem wp_part5 (hw : ∀ j, (fw j).toNat < 1000000) (v : BitVec 32) :
    iprop(MW d L O ∗ St (F := F) d L fw g q O W 0)
      ⊢ wpL d L (k1_part5 L aV (Memref.isWhole_whole _) iV (Memref.isWhole_whole _) oV (Memref.isWhole_whole _) sI (Memref.isWhole_whole _) cc1_scoped1
          sO (Memref.isWhole_whole _) cc1_scoped3 cc1_scoped4 cc1_scoped5 v) fun r => iprop(⌜r = ⟨w9 52, w10 52, chk5_of L, chk4_of⟩⌝ ∗ St (F := F) d L fw g q O W 52) := by
  simp only [k1_part5_eq_skeleton]; unfold k1_part5_skel
  dsimp -proj only
  unfold wpL
  iintro ⟨#Hmw, HS⟩
  iapply (Scf.wp_for_bind frame (wpE (defs₀ (F := F)) 𝒱₀ (thr d L) none) Set.univ _ _ _ k1_t1_ok _ _ (Inv d L fw g q O W) (wp_body d L fw g q O W hw v)) $$ [HS]
  · unfold Inv
    isplitr
    · ipureintro; rfl
    · isplitr; · iexact Hmw
      iexact HS
  iintro %acc HI
  ihave HI := (show Inv d L fw g q O W k1_t1_loop.trips acc ⊢ iprop(⌜acc = carried 52⌝ ∗ St d L fw g q O W 52) from by
    rw [trips_eq]; unfold Inv; iintro ⟨%h, -, H⟩; isplitr
    · ipureintro; exact h
    · iexact H) $$ HI
  icases HI with ⟨%hacc, HS⟩
  subst hacc
  iapply (wp_checked d L (chk5_of L))
  iapply (wp_checked d L chk4_of)
  iapply (wp_done d L)
  isplitr
  · ipureintro; rfl
  · iexact HS

/-- A task's slots and semaphores, free. -/
def Slots : sProp 𝕄 :=
  iprop((IdxFree (F := F) d L 0 ∗ IdxFree (F := F) d L 1) ∗ (OutFree (F := F) d L 0 ∗ OutFree (F := F) d L 1)
    ∗ (SemI d L 0 ∗ SemI d L 1) ∗ (SemO d L 0 ∗ SemO d L 1) ∗ SemG1 d L ∗ SemG2 d L)

theorem wp_task (hw : ∀ j, (fw j).toNat < 1000000) :
    iprop(MW d L O ∗ Tab (F := F) d g q ∗ Ow d L O W ∗ IBlks d L fw 0 ∗ OBlks d L 0 ∗ Slots d L)
      ⊢ wpL d L (cc1_gather_kernel L aV (Memref.isWhole_whole _) iV (Memref.isWhole_whole _) oV (Memref.isWhole_whole _) sI (Memref.isWhole_whole _) cc1_scoped1
          sO (Memref.isWhole_whole _) cc1_scoped3 cc1_scoped4 cc1_scoped5) fun _ => iprop(Dones (F := F) d L fw g 52 ∗ Slots d L ∗ Ow d L O W) := by
  simp only [cc1_gather_kernel_eq_skeleton]; unfold cc1_gather_kernel_skel Slots
  dsimp -proj only
  rw [IBlks_first d L fw (by omega)]
  iintro ⟨#Hmw, Ht, HO, ⟨Hb, Hbs⟩, Hobs, ⟨Hi0, Hi1⟩, ⟨Ho0, Ho1⟩, ⟨Hv0, Hv1⟩, ⟨Hs0, Hs1⟩, Hg1, Hg2⟩
  iapply (wp_cut (F := F) d L (wp_part4 d L fw)
    (R := iprop(MW d L O ∗ Tab d g q ∗ Ow d L O W ∗ IBlks d L fw (0 + 1) ∗ OBlks d L 0 ∗ IdxFree d L (sl 1) ∗ OutFree d L (sl 0) ∗ OutFree d L (sl 1)
      ∗ SemI d L (sl 1) ∗ SemO d L (sl 0) ∗ SemO d L (sl 1) ∗ SemG1 d L ∗ SemG2 d L)) ?_)
  · intro r
    refine by_step (wp_cut_eq (F := F) d L (wp_part5 d L fw g q O W hw r) (R := MW d L O) ?_) ?_
    · refine wp_as d L (by dsimp only) ?_
      unfold St InIdx InOut
      rw [if_neg (by omega : ¬ 52 < 52), if_neg (by omega : ¬ 52 = 0)]
      iintro ⟨⟨⟨⟨Hi0, Hv0⟩, Hi1, Hv1⟩, ⟨Hw, Ho0, Hs0⟩, Hg1, Hg2, Ht, HO, -, -, Hd⟩, #Hmw⟩
      iapply (wp_written d L fw g O W (sl (52 - 1)) (blk L (52 - 1)) off20_eq) $$ [Hw HO]
      · isplitr; · iexact Hmw
        isplitl [Hw]; · iexact Hw
        iexact HO
      iintro ⟨Hdn, Ho1, Hs1, HO⟩
      iapply (wp_done d L)
      isplitl [Hd Hdn]
      · iapply (Dones_split d L fw g (by omega : 52 ≠ 0))
        isplitl [Hdn] <;> iassumption
      isplitr [HO]
      swap; · iexact HO
      isplitl [Hi0 Hi1]
      · isplitl [Hi0]; · iexact Hi0
        iexact Hi1
      isplitl [Ho0 Ho1]
      · isplitl [Ho0]; · iexact Ho0
        iexact Ho1
      isplitl [Hv0 Hv1]
      · isplitl [Hv0]; · iexact Hv0
        iexact Hv1
      isplitl [Hs0 Hs1]
      · isplitl [Hs0]; · iexact Hs0
        iexact Hs1
      isplitl [Hg1] <;> iassumption
    · unfold St InIdx InOut
      rw [if_pos (by omega : 0 < 52), if_pos rfl]
      iintro ⟨Hf, #Hmw, Ht, HO, Hbs, Hobs, Hi1, Ho0, Ho1, Hv1, Hs0, Hs1, Hg1, Hg2⟩
      isplitr [Hmw]
      swap; · iexact Hmw
      isplitr; · iexact Hmw
      isplitl [Hf Hi1 Hv1]
      · isplitl [Hf]; · iexact Hf
        isplitl [Hi1] <;> iassumption
      isplitl [Ho0 Ho1 Hs0 Hs1]
      · isplitl [Ho1 Hs1]
        · isplitl [Ho1] <;> iassumption
        · isplitl [Ho0] <;> iassumption
      isplitl [Hg1]; · iexact Hg1
      isplitl [Hg2]; · iexact Hg2
      isplitl [Ht]; · iexact Ht
      isplitl [HO]; · iexact HO
      isplitl [Hbs]; · iexact Hbs
      isplitl [Hobs]; · iexact Hobs
      unfold Dones
      rw [show Finset.range (0 - 1) = ∅ by decide, BI.bigSep_empty]
      iempintro
  · isplitl [Hb Hi0 Hv0]
    · isplitl [Hb]; · iexact Hb
      isplitl [Hi0]; · iexact Hi0
      iexact Hv0
    isplitr; · iexact Hmw
    isplitl [Ht]; · iexact Ht
    isplitl [HO]; · iexact HO
    isplitl [Hbs]; · iexact Hbs
    isplitl [Hobs]; · iexact Hobs
    isplitl [Hi1]; · iexact Hi1
    isplitl [Ho0]; · iexact Ho0
    isplitl [Ho1]; · iexact Ho1
    isplitl [Hv1]; · iexact Hv1
    isplitl [Hs0]; · iexact Hs0
    isplitl [Hs1]; · iexact Hs1
    isplitl [Hg1] <;> iassumption

end Cert.Proof.SC
-- ==== Proof.Split.lean ====
/- The buffers a gather task works on, cut into its slots and its blocks, and put together again. -/
module

public import proofs.«01_k».proof.Proof.Loop

@[expose] public section

noncomputable section

namespace Cert.Proof.SC

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid1.Coords) (fw : S3328x128.Idx → BitVec 32) (g : S1000000x128.Idx → F .f32)

/-! ## The pieces' elements: parts of a buffer along its first axis -/

theorem div_i : 1664 ∣ S3328x128.size 0 := ⟨2, rfl⟩
theorem div_o : 1664 ∣ S425984x128.size 0 := ⟨256, rfl⟩
theorem div_sI : 2 ∣ S2x2x128.size 0 := ⟨1, rfl⟩
theorem div_sO : 2 ∣ S2x256x128.size 0 := ⟨1, rfl⟩

theorem set_iM (b : Fin 1664) : (iM b).view.set = (Rect.part (s := S3328x128) (a₀ := 0) div_i b).set := by
  show ((View.whole (main_v4_scv : Ref sig .scVector)).slice _).set = _
  rw [View.set_slice]
  have e : Rect.unit (s := S3328x128) ![2 * b.val, 0] S2x128.size (rows2_inb b.val b.isLt)
      = Rect.part (s := S3328x128) (a₀ := 0) div_i b := by
    unfold Rect.part Rect.block
    congr 1 <;> funext a <;> match a with
      | 0 => simp [Shape.partIx, Shape.partSize]; try omega
      | 1 => simp [Shape.partIx, Shape.partSize]
  exact Finset.map_refl.trans (congrArg (fun r : Rect S3328x128 => r.set) e)
theorem set_oM (b : Fin 1664) : (oM b).view.set = (Rect.part (s := S425984x128) (a₀ := 0) div_o b).set := by
  show ((View.whole (main_v5_scv : Ref sig .scVector)).slice _).set = _
  rw [View.set_slice]
  have e : Rect.unit (s := S425984x128) ![256 * b.val, 0] S256x128.size (rows256_inb b.val b.isLt)
      = Rect.part (s := S425984x128) (a₀ := 0) div_o b := by
    unfold Rect.part Rect.block
    congr 1 <;> funext a <;> match a with
      | 0 => simp [Shape.partIx, Shape.partSize]; try omega
      | 1 => simp [Shape.partIx, Shape.partSize]
  exact Finset.map_refl.trans (congrArg (fun r : Rect S425984x128 => r.set) e)
theorem set_idxM (n : Fin 2) : (idxM n).view.set = (Rect.part (s := S2x2x128) (a₀ := 0) div_sI n).set := by
  show (((View.whole (cc1_scoped0 : Ref sig .scVector)).slice _).reshape _ _).set = _
  rw [View.set_reshape, View.set_slice]
  have e : Rect.unit (s := S2x2x128) ![n.val, 0, 0] S1x2x128.size (slot3_inb n.val n.isLt)
      = Rect.part (s := S2x2x128) (a₀ := 0) div_sI n := by
    unfold Rect.part Rect.block
    congr 1 <;> funext a <;> match a with
      | 0 => simp [Shape.partIx, Shape.partSize]
      | 1 => simp [Shape.partIx, Shape.partSize]
      | 2 => simp [Shape.partIx, Shape.partSize]
  exact Finset.map_refl.trans (congrArg (fun r : Rect S2x2x128 => r.set) e)
theorem set_outM (n : Fin 2) : (outM n).view.set = (Rect.part (s := S2x256x128) (a₀ := 0) div_sO n).set := by
  show (((View.whole (cc1_scoped2 : Ref sig .scVector)).slice _).reshape _ _).set = _
  rw [View.set_reshape, View.set_slice]
  have e : Rect.unit (s := S2x256x128) ![n.val, 0, 0] S1x256x128.size (slot3_inb n.val n.isLt)
      = Rect.part (s := S2x256x128) (a₀ := 0) div_sO n := by
    unfold Rect.part Rect.block
    congr 1 <;> funext a <;> match a with
      | 0 => simp [Shape.partIx, Shape.partSize]
      | 1 => simp [Shape.partIx, Shape.partSize]
      | 2 => simp [Shape.partIx, Shape.partSize]
  exact Finset.map_refl.trans (congrArg (fun r : Rect S2x256x128 => r.set) e)

/-- Pieces that are a shape's parts along an axis: disjoint, and all of it. -/
theorem parts_disjoint {s : Shape} {a₀ : Fin s.rank} {n : ℕ} (h : n ∣ s.size a₀) (A : Fin n → Finset s.Idx) (hA : ∀ i, A i = (Rect.part h i).set) :
    ∀ i ∈ (Finset.univ : Finset (Fin n)), ∀ j ∈ (Finset.univ : Finset (Fin n)), i ≠ j → Disjoint (A i) (A j) :=
  fun i _ j _ hij => by rw [hA, hA]; exact Rect.part_disjoint h hij
theorem parts_cover {s : Shape} {a₀ : Fin s.rank} {n : ℕ} (h : n ∣ s.size a₀) (A : Fin n → Finset s.Idx) (hA : ∀ i, A i = (Rect.part h i).set) :
    (Finset.univ : Finset (Fin n)).biUnion A = Finset.univ :=
  (Finset.biUnion_congr rfl fun i _ => hA i).trans (Rect.biUnion_part h)

theorem two_slots (Φ : Fin 2 → sProp 𝕄) : bigSep Finset.univ Φ = iprop(Φ 0 ∗ Φ 1) := BI.bigSep_fin_two Φ

/-- A buffer held whole is held by pieces. -/
theorem pieces {ℓ : Loc nD τ sig} {n : ℕ} (A : Fin n → Finset (Idx ℓ))
    (hd : ∀ i ∈ (Finset.univ : Finset (Fin n)), ∀ j ∈ (Finset.univ : Finset (Fin n)), i ≠ j → Disjoint (A i) (A j))
    (hc : (Finset.univ : Finset (Fin n)).biUnion A = Finset.univ) (f : Buf (Elt F) ℓ) :
    (ℓ ↦{fullShare} f : sProp 𝕄) = bigSep Finset.univ fun i => ℓ ↦[A i]{fullShare} f := by
  rw [← pointsTo_biUnion Finset.univ A hd, hc]
/-- Pieces at contents of a given kind are a buffer whose elements are of that kind. -/
theorem pieces_join {ℓ : Loc nD τ sig} {n : ℕ} (i₀ : Fin n) (A : Fin n → Finset (Idx ℓ))
    (hd : ∀ i ∈ (Finset.univ : Finset (Fin n)), ∀ j ∈ (Finset.univ : Finset (Fin n)), i ≠ j → Disjoint (A i) (A j))
    (hc : (Finset.univ : Finset (Fin n)).biUnion A = Finset.univ) {X : Type} [Nonempty X] (φ : X → Buf (Elt F) ℓ) :
    (bigSep Finset.univ fun i => iprop(∃ x, ℓ ↦[A i]{fullShare} φ x)) ⊢ (iprop(∃ f, ⌜∀ j, ∃ x, f j = φ x j⌝ ∗ ℓ ↦{fullShare} f) : sProp 𝕄) := by
  refine (bigSep_exists_pi Finset.univ (fun i (x : X) => (ℓ ↦[A i]{fullShare} φ x : sProp 𝕄))).trans ?_
  iintro ⟨%xs, H⟩
  ihave H' := (pointsTo_biUnion_join (ℓ := ℓ) (q := fullShare) (Val := Elt F) Finset.univ A (fun i => φ (xs i)) (φ (xs i₀)) hd) $$ H
  rw [hc]
  icases H' with ⟨%f, %hf, H⟩
  iexists f
  isplitr
  · ipureintro; intro j
    obtain ⟨i, hi, hj⟩ := Finset.mem_biUnion.mp (hc ▸ Finset.mem_univ j)
    exact ⟨xs i, hf i hi j hj⟩
  · iexact H

theorem idx_split (f : Buf (Elt F) ((thr d L).loc cc1_scoped0)) :
    ((thr d L).loc cc1_scoped0 ↦{fullShare} f : sProp 𝕄) ⊢ iprop(IdxFree (F := F) d L 0 ∗ IdxFree (F := F) d L 1) := by
  rw [pieces (fun n => (idxM n).view.set) (parts_disjoint div_sI _ set_idxM) (parts_cover div_sI _ set_idxM) f, two_slots]
  unfold IdxFree
  iintro ⟨H0, H1⟩
  isplitl [H0]
  · iexists f; iexact H0
  · iexists f; iexact H1
theorem idx_join [∀ e, Nonempty (Elt F e)] :
    iprop(IdxFree (F := F) d L 0 ∗ IdxFree (F := F) d L 1) ⊢ (iprop(∃ f, (thr d L).loc cc1_scoped0 ↦{fullShare} f) : sProp 𝕄) := by
  have : Nonempty (Buf (Elt F) ((thr d L).loc cc1_scoped0)) := ⟨fun _ => Classical.arbitrary _⟩
  have h := pieces_join (ℓ := (thr d L).loc cc1_scoped0) 0 (fun n => (idxM n).view.set) (parts_disjoint div_sI _ set_idxM) (parts_cover div_sI _ set_idxM)
    (fun f : Buf (Elt F) ((thr d L).loc cc1_scoped0) => f)
  rw [two_slots] at h
  unfold IdxFree
  iintro H
  ihave H := h $$ H
  icases H with ⟨%f, -, H⟩
  iexists f; iexact H
theorem out_split (f : Buf (Elt F) ((thr d L).loc cc1_scoped2)) :
    ((thr d L).loc cc1_scoped2 ↦{fullShare} f : sProp 𝕄) ⊢ iprop(OutFree (F := F) d L 0 ∗ OutFree (F := F) d L 1) := by
  rw [pieces (fun n => (outM n).view.set) (parts_disjoint div_sO _ set_outM) (parts_cover div_sO _ set_outM) f, two_slots]
  unfold OutFree
  iintro ⟨H0, H1⟩
  isplitl [H0]
  · iexists f; iexact H0
  · iexists f; iexact H1
theorem out_join [∀ e, Nonempty (Elt F e)] :
    iprop(OutFree (F := F) d L 0 ∗ OutFree (F := F) d L 1) ⊢ (iprop(∃ f, (thr d L).loc cc1_scoped2 ↦{fullShare} f) : sProp 𝕄) := by
  have : Nonempty (Buf (Elt F) ((thr d L).loc cc1_scoped2)) := ⟨fun _ => Classical.arbitrary _⟩
  have h := pieces_join (ℓ := (thr d L).loc cc1_scoped2) 0 (fun n => (outM n).view.set) (parts_disjoint div_sO _ set_outM) (parts_cover div_sO _ set_outM)
    (fun f : Buf (Elt F) ((thr d L).loc cc1_scoped2) => f)
  rw [two_slots] at h
  unfold OutFree
  iintro H
  ihave H := h $$ H
  icases H with ⟨%f, -, H⟩
  iexists f; iexact H

/-! ## A task's own semaphores and buffers -/

def mySems : Finset (SemLoc sig) := {.dma (smI 0), .dma (smI 1), .dma (smO 0), .dma (smO 1), .dma cc1_scoped4.sem, .dma cc1_scoped5.sem}
def cellsOf : Finset (GSem nD τ sig) := mySems.map ⟨fun s => (thr d L, s), fun _ _ e => (Prod.ext_iff.mp e).2⟩
theorem cellsOf_subset : cellsOf d L ⊆ ownCells (thr d L) := by
  intro c hc
  obtain ⟨s, hs, rfl⟩ := Finset.mem_map.mp hc
  refine mem_ownCells.mpr ⟨rfl, ?_⟩
  show s.isScoped .scVector = true
  exact (show ∀ s ∈ mySems, s.isScoped .scVector = true by decide) s hs
theorem sems_V : (ownSems0 (thr d L) : sProp 𝕄)
    = iprop((SemI d L 0 ∗ SemI d L 1 ∗ SemO d L 0 ∗ SemO d L 1 ∗ SemG1 d L ∗ SemG2 d L)
        ∗ bigSep (ownCells (thr d L) \ cellsOf d L) fun c => semVal c 0) := by
  unfold SparseCore.Cfg.ownSems0
  rw [SparseCore.bigSep_sdiff_split' (cellsOf_subset d L)]
  congr 1
  unfold cellsOf mySems
  rw [BI.bigSep_map, SparseCore.bigSep_insert' (by decide), SparseCore.bigSep_insert' (by decide), SparseCore.bigSep_insert' (by decide),
    SparseCore.bigSep_insert' (by decide), SparseCore.bigSep_insert' (by decide), BI.bigSep_singleton]
  rfl

def myRefs : Finset (Ref sig .scVector) := {cc1_scoped0, cc1_scoped2}
def refsOf : Finset (DevRef τ sig) := myRefs.map ⟨fun r => (Proc.scVector (cV L) (jV L)).devRef r, Proc.devRef_injective _⟩
theorem refsOf_subset : refsOf L ⊆ ownRefs (τ := τ) (.scVector (cV L) (jV L)) := by
  intro c hc
  obtain ⟨s, hs, rfl⟩ := Finset.mem_map.mp hc
  refine SparseCore.Cfg.mem_ownRefs_of_owner ?_
  simp only [myRefs, Finset.mem_insert, Finset.mem_singleton] at hs
  rcases hs with rfl | rfl <;> rfl
theorem bufs_V : (ownBufs (thr d L) : sProp 𝕄)
    = iprop(((∃ f, (thr d L).loc cc1_scoped0 ↦{fullShare} f) ∗ (∃ f, (thr d L).loc cc1_scoped2 ↦{fullShare} f))
        ∗ bigSep (ownRefs (τ := τ) (.scVector (cV L) (jV L)) \ refsOf L) fun b => iprop(∃ f, ((d, b) : Loc nD τ sig) ↦{fullShare} f)) := by
  unfold SparseCore.Cfg.ownBufs
  refine (SparseCore.bigSep_sdiff_split' (refsOf_subset L)).trans ?_
  congr 1
  unfold refsOf myRefs
  rw [BI.bigSep_map, SparseCore.bigSep_insert' (show cc1_scoped0 ∉ ({cc1_scoped2} : Finset (Ref sig .scVector)) by decide), BI.bigSep_singleton]
  rfl

end Cert.Proof.SC
-- ==== Proof.Obl.lean ====
/- What the call's handshakes carry, and the call's obligations: the task on every vector subcore, the deal of the
   operands to the tasks, the result put together. -/
module

public import proofs.«01_k».proof.Proof.Split

@[expose] public section

noncomputable section

namespace Cert.Proof.SC

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## What the handshakes carry -/

section Payloads

variable (fw : Dev nD → S3328x128.Idx → BitVec 32) (Q2 : Dev nD → (S1000000x128.Idx → F .f32) → Prop)

/-- A task's operands: a share of a table of the given kind, its blocks of the row numbers and of the result. -/
def Go (d : Dev nD) (L : grid1.Coords) : sProp 𝕄 :=
  iprop(∃ g : {g // Q2 d g}, ∃ q : PosShare TreeShare, Tab d g.1 q ∗ IBlks d L (fw d) 0 ∗ OBlks d L 0)
/-- A task's result: its blocks, at the rows of a table of the given kind. -/
def Td (d : Dev nD) (L : grid1.Coords) : sProp 𝕄 := iprop(∃ g : {g // Q2 d g}, Dones d L (fw d) g.1 52)

def coordsOf (c : Fin (grid1.bound 0)) (i : Fin (grid1.bound 1)) : grid1.Coords :=
  fun | 0 => c | 1 => i | ⟨_ + 2, h⟩ => absurd h (Nat.not_lt.2 (Nat.le_add_left _ _))
abbrev Lc (c : Fin ((K (F := F)).nCore 0)) (i : Fin ((K (F := F)).nSub 0)) : grid1.Coords := coordsOf c i

def P : (K (F := F)).Pay (nD := nD) (Val := Elt F) (Name := ℕ) (U := UU) where
  st := fun q d c => match q with | 0 => bigSep Finset.univ fun i => Go fw Q2 d (Lc (F := F) c i)
  dn := fun q d c => match q with | 0 => bigSep Finset.univ fun i => Td fw Q2 d (Lc (F := F) c i)
  go := fun q d c i => match q with | 0 => Go fw Q2 d (Lc (F := F) c i)
  td := fun q d c i => match q with | 0 => Td fw Q2 d (Lc (F := F) c i)
  x := fun _ _ => iprop(emp)

instance (d : Dev nD) (L : grid1.Coords) : BI.Storable (upEmb : UEmb _ 𝕄) (Go fw Q2 d L) := by
  unfold Go Tab IBlks OBlks IBlk OBlk; infer_instance
instance (d : Dev nD) (L : grid1.Coords) : BI.Storable (upEmb : UEmb _ 𝕄) (Td fw Q2 d L) := by
  unfold Td Dones Done; infer_instance

instance P_storable : (P (F := F) fw Q2).IsStorable where
  st q d c := match q with
    | 0 => (inferInstance : BI.Storable (upEmb : UEmb _ 𝕄) (bigSep Finset.univ fun i => Go fw Q2 d (Lc (F := F) c i)))
  dn q d c := match q with
    | 0 => (inferInstance : BI.Storable (upEmb : UEmb _ 𝕄) (bigSep Finset.univ fun i => Td fw Q2 d (Lc (F := F) c i)))
  go q d c i := match q with | 0 => (inferInstance : BI.Storable (upEmb : UEmb _ 𝕄) (Go fw Q2 d (Lc (F := F) c i)))
  td q d c i := match q with | 0 => (inferInstance : BI.Storable (upEmb : UEmb _ 𝕄) (Td fw Q2 d (Lc (F := F) c i)))

/-! ## The task -/

theorem task [∀ e, Nonempty (Elt F e)] (d : Dev nD) (L : grid1.Coords) (hF : (K (F := F)).Facts) (hw : ∀ j, (fw d j).toNat < 1000000)
    (O : CellTallies nD τ sig (HIx 1)) (W : Waits sig (HIx 1)) (hO : ∀ g, O g none = 0) :
    iprop(levAts (K (F := F)).L (K (F := F)).lev ∗ emp ∗ Go fw Q2 d L ∗ scopedBufs (thr d L) ∗ scopedSems0 (thr d L) ∗ owes (thr d L) O W)
      ⊢ wp frame (wpE (defs₀ (F := F)) 𝒱₀ (thr d L) none) Set.univ (cc1_gather_kernel L aV (Memref.isWhole_whole _) iV (Memref.isWhole_whole _) oV (Memref.isWhole_whole _) sI (Memref.isWhole_whole _) cc1_scoped1
          sO (Memref.isWhole_whole _) cc1_scoped3 cc1_scoped4 cc1_scoped5)
          fun _ => iprop(Td fw Q2 d L ∗ scopedBufs (thr d L) ∗ scopedSems0 (thr d L)
            ∗ ∃ W', ⌜∀ p ∈ W', p ∈ W ∨ p.2 = none ∨ p.2 = some 0⌝ ∗ owes (thr d L) O W') := by
  rw [(K (F := F)).scopedBufs_V hF d (cV L) (jV L), SparseCore.Cfg.scopedSems0_V (Val := Elt F) d (cV L) (jV L), sems_V, bufs_V]
  unfold Go Td
  iintro ⟨#Hlv, -, ⟨%g, %q, Ht, Hi, Ho⟩, ⟨⟨⟨%f0, H0⟩, %f2, H2⟩, Hbufs⟩, ⟨⟨Hi0, Hi1, Ho0, Ho1, Hg1, Hg2⟩, Hsems⟩, HO⟩
  ihave Hmw := (show levAts (K (F := F)).L (K (F := F)).lev ⊢ MW d L O from (K (F := F)).mayWaits_none (thr := thr d L) hO) $$ Hlv
  ihave H0 := (idx_split d L f0) $$ H0
  ihave H2 := (out_split d L f2) $$ H2
  iapply (wp_wand_r frame (wpE (defs₀ (F := F)) 𝒱₀ (thr d L) none) Set.univ)
  isplitl [Hmw Ht HO Hi Ho H0 H2 Hi0 Hi1 Ho0 Ho1 Hg1 Hg2]
  · iapply (wp_task d L (fw d) g.1 q O W hw)
    isplitl [Hmw]; · iexact Hmw
    isplitl [Ht]; · iexact Ht
    isplitl [HO]
    · unfold Ow
      iexists W; isplitr
      · ipureintro; exact fun p hp => .inl hp
      · iexact HO
    isplitl [Hi]; · iexact Hi
    isplitl [Ho]; · iexact Ho
    unfold Slots
    isplitl [H0]; · iexact H0
    isplitl [H2]; · iexact H2
    isplitl [Hi0 Hi1]; · isplitl [Hi0] <;> iassumption
    isplitl [Ho0 Ho1]; · isplitl [Ho0] <;> iassumption
    isplitl [Hg1] <;> iassumption
  iintro %_ ⟨Hd, HS, HO⟩
  unfold Slots Ow
  icases HS with ⟨H0, H2, ⟨Hi0, Hi1⟩, ⟨Ho0, Ho1⟩, Hg1, Hg2⟩
  icases HO with ⟨%W', %hW, HO⟩
  isplitl [Hd]; · iexists g; iexact Hd
  isplitl [H0 H2 Hbufs]
  · isplitr [Hbufs]
    swap; · iexact Hbufs
    isplitl [H0]
    · iapply (idx_join d L) $$ H0
    · iapply (out_join d L) $$ H2
  isplitl [Hi0 Hi1 Ho0 Ho1 Hg1 Hg2 Hsems]
  · isplitr [Hsems]
    swap; · iexact Hsems
    isplitl [Hi0]; · iexact Hi0
    isplitl [Hi1]; · iexact Hi1
    isplitl [Ho0]; · iexact Ho0
    isplitl [Ho1]; · iexact Ho1
    isplitl [Hg1] <;> iassumption
  iexists W'; isplitr
  · ipureintro; exact fun p hp => (hW p hp).imp_right .inl
  · iexact HO

theorem defs₀_tile (c : Fin τ.nSC) (i : Fin τ.nSub) :
    defs₀ (F := F) (.scVector c i) 1 ()
      = SparseCore.onTile hcore1 hsub1 (fun c i => cc1_gather_kernel (coordsOf c i) aV (Memref.isWhole_whole _) iV (Memref.isWhole_whole _) oV (Memref.isWhole_whole _) sI (Memref.isWhole_whole _) cc1_scoped1
          sO (Memref.isWhole_whole _) cc1_scoped3 cc1_scoped4 cc1_scoped5) ⟨⟩ c i := rfl

set_option maxRecDepth 16384 in
theorem tileObl [∀ e, Nonempty (Elt F e)] (hF : (K (F := F)).Facts) (hw : ∀ d j, (fw d j).toNat < 1000000) : (K (F := F)).TileObl (D (F := F)) 𝒱 (P fw Q2) v₀ 0 := by
  intro d c i O W hO _ _
  simp only [show (P (F := F) fw Q2).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact task fw Q2 d (coordsOf ⟨_, hci.1⟩ ⟨_, hci.2⟩) hF (hw d) O W hO

theorem vecSplit : (K (F := F)).VecSplit' (P fw Q2) 0 := by
  intro d c
  show (bigSep Finset.univ fun i => Go fw Q2 d (Lc (F := F) c i)) ⊢ |={Set.univ}=> iprop(
      (bigSep Finset.univ fun i => Go fw Q2 d (Lc (F := F) c i))
      ∗ ((bigSep Finset.univ fun i => Td fw Q2 d (Lc (F := F) c i)) -∗ bigSep Finset.univ fun i => Td fw Q2 d (Lc (F := F) c i)))
  iintro H; imodintro
  isplitl [H]; · iexact H
  iintro H; iexact H

end Payloads

end Cert.Proof.SC
-- ==== Proof.Deal.lean ====
/- The operands dealt to the tasks, and the result put together of what the tasks leave. -/
module

public import proofs.«01_k».proof.Proof.Obl

@[expose] public section

noncomputable section

namespace Cert.Proof.SC

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The blocks are those of the tasks: block `b` of task `(c, i)` is block `52 (16 c + i) + b`. -/
def blockEquiv : (Fin 2 × Fin 16) × Fin 52 ≃ Fin 1664 :=
  (finProdFinEquiv.prodCongr (Equiv.refl (Fin 52))).trans (finProdFinEquiv (m := 32) (n := 52))

theorem blockEquiv_eq (c : Fin 2) (i : Fin 16) (b : Fin 52) : blockEquiv ((c, i), b) = blk (coordsOf c i) b.val := by
  refine Fin.ext ?_
  show b.val + 52 * (i.val + 16 * c.val) = 52 * (i.val + 16 * c.val) + b.val % 52
  have := b.isLt
  omega

theorem range_univ (n : ℕ) (Φ : ℕ → sProp (MT nD τ sig (HIx 1) (Elt F) ℕ UU ℕ)) :
    bigSep (Finset.range n) Φ = bigSep Finset.univ fun b : Fin n => Φ b.val := by
  have h : Finset.range n = (Finset.univ : Finset (Fin n)).map Fin.valEmbedding := by
    rw [Fin.map_valEmbedding_univ]; ext x; simp
  rw [h, bigSep_map]; rfl

theorem regroup (Φ : Fin 1664 → sProp (MT nD τ sig (HIx 1) (Elt F) ℕ UU ℕ)) :
    bigSep Finset.univ Φ = bigSep Finset.univ fun c : Fin 2 => bigSep Finset.univ fun i : Fin 16 =>
      bigSep (Finset.range 52) fun b => Φ (blk (coordsOf c i) b) := by
  rw [bigSep_univ_equiv blockEquiv, bigSep_univ_prod, bigSep_univ_prod]
  refine BI.bigSep_congr fun c _ => BI.bigSep_congr fun i _ => ?_
  rw [range_univ]
  exact BI.bigSep_congr fun b _ => by rw [blockEquiv_eq]

variable (d : Dev nD)

/-- A share of the table makes a share for each of any number of tasks. -/
theorem tab_deal {ι : Type} [DecidableEq ι] (g : S1000000x128.Idx → F .f32) (s : Finset ι) : ∀ q : PosShare TreeShare,
    Tab d g q ⊢ bigSep s fun _ => iprop(∃ q : PosShare TreeShare, Tab d g q) := by
  induction s using Finset.induction_on with
  | empty => intro q; rw [BI.bigSep_empty]; iintro -; iempintro
  | insert a s ha ih =>
    intro q
    rw [BI.bigSep_insert ha]
    unfold Tab at ih ⊢
    refine (pointsTo_share (PosShare.mem_left_op_right q)).1.trans ?_
    exact BI.sep_mono (Laws.exists_intro (Φ := fun q => (aLoc d ↦{q} (g : Buf (Elt F) (aLoc d)) : sProp 𝕄)) q.left) (ih _)

theorem entails_eq {P Q : sProp (MT nD τ sig (HIx 1) (Elt F) ℕ UU ℕ)} (h : P = Q) : P ⊢ Q := h ▸ .rfl
/-- Three families over one index set, joined point by point. -/
theorem zip3 {A : Type} (s : Finset A) {Φ Ψ Ξ Θ : A → sProp (MT nD τ sig (HIx 1) (Elt F) ℕ UU ℕ)}
    (h : ∀ a, iprop(Φ a ∗ Ψ a ∗ Ξ a) ⊢ Θ a) : iprop(bigSep s Φ ∗ bigSep s Ψ ∗ bigSep s Ξ) ⊢ bigSep s Θ := by
  rw [← bigSep_sep' s Ψ Ξ, ← bigSep_sep' s Φ]
  exact BI.bigSep_mono fun a _ => h a

section Deal

variable (fw : Dev nD → S3328x128.Idx → BitVec 32) (Q2 : Dev nD → (S1000000x128.Idx → F .f32) → Prop)

theorem deal (g : {g // Q2 d g}) (f : Buf (Elt F) (oLoc d)) :
    iprop((aLoc d ↦{fullShare} (g.1 : Buf (Elt F) (aLoc d))) ∗ (iLoc d ↦{fullShare} (fw d : Buf (Elt F) (iLoc d))) ∗ oLoc d ↦{fullShare} f)
      ⊢ (bigSep Finset.univ fun c : Fin 2 => bigSep Finset.univ fun i : Fin 16 => Go fw Q2 d (coordsOf c i) : sProp 𝕄) := by
  have ho : (oLoc d ↦{fullShare} f : sProp 𝕄) ⊢ bigSep Finset.univ fun b => OBlk (F := F) d b := by
    refine (entails_eq (pieces (ℓ := oLoc d) (fun n => (oM n).view.set) (parts_disjoint div_o _ set_oM) (parts_cover div_o _ set_oM) f)).trans ?_
    refine BI.bigSep_mono fun b _ => ?_
    exact Laws.exists_intro (Φ := fun f : Buf (Elt F) (oLoc d) => (oLoc d ↦[(oM b).view.set]{fullShare} f : sProp 𝕄)) f
  have hi : (iLoc d ↦{fullShare} (fw d : Buf (Elt F) (iLoc d)) : sProp 𝕄) = bigSep Finset.univ fun b => IBlk (F := F) d (fw d) b :=
    pieces (ℓ := iLoc d) (fun n => (iM n).view.set) (parts_disjoint div_i _ set_iM) (parts_cover div_i _ set_iM) (fw d)
  have ht : (aLoc d ↦{fullShare} (g.1 : Buf (Elt F) (aLoc d)) : sProp 𝕄)
      ⊢ bigSep Finset.univ fun _ : Fin 2 => bigSep Finset.univ fun _ : Fin 16 => iprop(∃ q : PosShare TreeShare, Tab d g.1 q) := by
    have h := tab_deal (F := F) d g.1 (Finset.univ : Finset (Fin 2 × Fin 16)) fullShare
    rw [bigSep_univ_prod] at h
    exact h
  have hz : ∀ (c : Fin 2) (i : Fin 16), iprop((∃ q : PosShare TreeShare, Tab d g.1 q)
      ∗ (bigSep (Finset.range 52) fun b => IBlk (F := F) d (fw d) (blk (coordsOf c i) b)) ∗ bigSep (Finset.range 52) fun b => OBlk (F := F) d (blk (coordsOf c i) b))
      ⊢ Go fw Q2 d (coordsOf c i) := fun c i => by
    unfold Go IBlks OBlks
    rw [← Finset.range_eq_Ico]
    iintro ⟨⟨%q, Ht⟩, Hi, Ho⟩
    iexists g; iexists q
    isplitl [Ht]; · iexact Ht
    isplitl [Hi] <;> iassumption
  rw [regroup] at hi ho
  iintro ⟨Ht, Hi, Ho⟩
  ihave Ht := ht $$ Ht
  ihave Hi := (entails_eq hi) $$ Hi
  ihave Ho := ho $$ Ho
  iapply (zip3 (Finset.univ : Finset (Fin 2)) fun c => zip3 (Finset.univ : Finset (Fin 16)) fun i => hz c i)
  isplitl [Ht]; · iexact Ht
  isplitl [Hi] <;> iassumption

theorem collect (g₀ : {g // Q2 d g}) :
    (bigSep Finset.univ fun c : Fin 2 => bigSep Finset.univ fun i : Fin 16 => Td fw Q2 d (coordsOf c i) : sProp 𝕄)
      ⊢ iprop(∃ f : Buf (Elt F) (oLoc d), ⌜∀ j, ∃ g, Q2 d g ∧ f j = want (fw d) g j⌝ ∗ oLoc d ↦{fullShare} f) := by
  have : Nonempty {g // Q2 d g} := ⟨g₀⟩
  have hj := pieces_join (ℓ := oLoc d) (F := F) 0 (fun n => (oM n).view.set) (parts_disjoint div_o _ set_oM) (parts_cover div_o _ set_oM)
    (fun g : {g // Q2 d g} => (want (fw d) g.1 : Buf (Elt F) (oLoc d)))
  rw [regroup] at hj
  refine BI.Entails.trans (BI.bigSep_mono fun c _ => BI.bigSep_mono fun i _ => ?_) (hj.trans ?_)
  · unfold Td Dones
    show _ ⊢ bigSep (Finset.range 52) fun b => iprop(∃ g : {g // Q2 d g}, Done (F := F) d (fw d) g.1 (blk (coordsOf c i) b))
    have hm : ∀ g : {g // Q2 d g}, (bigSep (Finset.range 52) fun b => Done (F := F) d (fw d) g.1 (blk (coordsOf c i) b))
        ⊢ bigSep (Finset.range 52) fun b => iprop(∃ g : {g // Q2 d g}, Done (F := F) d (fw d) g.1 (blk (coordsOf c i) b)) := fun g =>
      BI.bigSep_mono fun b _ => Laws.exists_intro (Φ := fun g : {g // Q2 d g} => Done (F := F) d (fw d) g.1 (blk (coordsOf c i) b)) g
    iintro ⟨%g, H⟩
    iapply (hm g) $$ H
  · iintro ⟨%f, %hf, H⟩
    iexists f
    isplitr
    · ipureintro; intro j; obtain ⟨g, hg⟩ := hf j; exact ⟨g.1, g.2, hg⟩
    · iexact H

end Deal

end Cert.Proof.SC
-- ==== Proof.Region.lean ====
/- The TensorCore's call: its body at any contents of the windows' buffers, and what its pipeline may leave in the
   result. The last block of the result reaches past the table's end, so what a window's buffer holds past it is any. -/
module

public import proofs.«01_k».proof.Proof.Deal

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.WritesUnit
@[expose] public section

noncomputable section

namespace Cert.Proof.SC

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The body -/

theorem emb_of_zero {s : Shape} (r : Rect s) (h0 : ∀ a, r.off a = 0) (h1 : ∀ a, r.stride a = 1) (x : r.shape.Idx) (a : Fin s.rank) :
    (r.emb x a).val = (x a).val := by rw [Rect.emb_apply, h0, h1]; omega
theorem zero2 : ∀ a : Fin 2, (![0, 0] : Fin 2 → ℕ) a = 0 := by decide

/-- The body on any three whole buffers: the result's buffer is left at the payload of the other two. -/
theorem projRun (d : Dev nD) (i : grid0.Coords) (a1 : Memref sig .tc .vmem S64x24576 .f32) (h1 : a1.IsWhole)
    (a2 : Memref sig .tc .vmem S64x128 .f32) (h2 : a2.IsWhole) (a3 : Memref sig .tc .vmem S24576x128 .f32) (h3 : a3.IsWhole)
    (Y0 : Vec F S64x24576 .f32) (Y1 : Vec F S64x128 .f32) (Y2 : Vec F S24576x128 .f32) (Q : PUnit → sProp (MT nD τ sig (HIx 1) (Elt F) ℕ UU ℕ)) :
    iprop(owns (SparseCore.T d) a1 fullShare Y0 ∗ owns (SparseCore.T d) a2 fullShare Y1 ∗ owns (SparseCore.T d) a3 fullShare Y2
        ∗ (iprop(owns (SparseCore.T d) a1 fullShare Y0 ∗ owns (SparseCore.T d) a2 fullShare Y1
          ∗ owns (SparseCore.T d) a3 fullShare (Gen.k0_pay1 Y0 Y1)) -∗ Q ⟨⟩))
      ⊢ wp frame (wpE (defs₀ (F := F)) 𝒱₀ (SparseCore.T d) none) Set.univ (cc0__proj_body i a1 h1 a2 h2 a3 h3) Q := by
  simp only [Gen.cc0__proj_body_eq_skeleton]; unfold Gen.cc0__proj_body_skel
  unfold owns
  iintro ⟨⟨%f1, %e1, H1⟩, ⟨%f2, %e2, H2⟩, ⟨%f3, -, H3⟩, Hk⟩
  sl_exec
  sl_step
  iapply Hk
  isplitl [H1]; · iexists f1; isplitr; (· ipureintro; exact e1); iexact H1
  isplitl [H2]; · iexists f2; isplitr; (· ipureintro; exact e2); iexact H2
  iexists _; isplitr; swap; (· iexact H3)
  ipureintro
  have r1 : View.readAt (Elt F) a1.view (Rect.unit ![0, 0] S64x24576.size inb_S64x24576_S64x24576_0_0).toLoadRect f1 = Y0 := by
    rw [View.readAt_eq_ld, e1]; funext x
    exact congrArg Y0 (funext fun a => Fin.ext (emb_of_zero _ zero2 (fun _ => rfl) x a))
  have r2 : View.readAt (Elt F) a2.view (Rect.unit ![0, 0] S64x128.size inb_S64x128_S64x128_0_0).toLoadRect f2 = Y1 := by
    rw [View.readAt_eq_ld, e2]; funext x
    exact congrArg Y1 (funext fun a => Fin.ext (emb_of_zero _ zero2 (fun _ => rfl) x a))
  rw [r1, r2]
  funext y
  exact View.read_writes_cons_unit_of_mem a3.view f3 inb_S24576x128_S24576x128_0_0 (Gen.k0_pay1 Y0 Y1) [] y y rfl
    fun a => by rw [zero2]; exact (Nat.zero_add _).symm

/-! ## What the pipeline may leave -/

abbrev adm : (p : Fin 1) → (pcfgs (F := F) p).Adm := fun p => (cfgs p).toPCfg_adm

section Data

variable (v0 : Dev nD → S64x1000000.Idx → F .f32) (v1 : Dev nD → S64x128.Idx → F .f32) (v2 : Dev nD → S1000000x128.Idx → F .f32)

/-- The arrays at entry; the windows' buffers left as found. -/
def base (d : Dev nD) : Pipeline.RDat τ (Elt F) (HIx 1) ℕ UU ℕ cfg0 d where
  A := fun | 0 => v0 d | 1 => v1 d | 2 => v2 d | ⟨_ + 3, h⟩ => absurd h (Nat.not_lt.2 (Nat.le_add_left _ _))
  after := fun _ _ Y X => X = Y
  Φ := fun _ => iprop(emp)
  q := fun _ => fullShare
  owed := fun _ => (K (F := F)).Otc d 0
  recorded := fun _ => {p | (K (F := F)).lev (SparseCore.T d, p.1) p.2 ≤ 0}

/-- The inputs' buffers left as found, the result's at the payload of blocks of the two inputs, whatever lies past an
    input's end. -/
def rd (d : Dev nD) : Pipeline.RDat τ (Elt F) (HIx 1) ℕ UU ℕ cfg0 d :=
  { base v0 v1 v2 d with
    after := fun
      | 2 => fun t _ X => ∃ d0 d1, X = Gen.k0_pay1 ((base v0 v1 v2 d).fetched 0 t d0) ((base v0 v1 v2 d).fetched 1 t d1)
      | 0 => fun _ Y X => X = Y
      | 1 => fun _ Y X => X = Y
      | ⟨_ + 3, h⟩ => absurd h (Nat.not_lt.2 (Nat.le_add_left _ _)) }

def rdats : (p : Fin 1) → (d : Dev nD) → Pipeline.RDat τ (Elt F) (HIx 1) ℕ UU ℕ (Pipeline.pin (pcfgs (F := F)) adm p) d
  | ⟨0, _⟩ => fun d => rd v0 v1 v2 d

theorem finds0 [∀ e, Nonempty (Elt F e)] (d : Dev nD) (t : Fin cfg0.N) (Y) (h : (rd v0 v1 v2 d).Finds 0 t Y) : ∃ d0, Y = (base v0 v1 v2 d).fetched 0 t d0 :=
  ((rd v0 v1 v2 d).finds_of_fetch (Gen.fetch0_0 t) Y).mp h
theorem finds1 [∀ e, Nonempty (Elt F e)] (d : Dev nD) (t : Fin cfg0.N) (Y) (h : (rd v0 v1 v2 d).Finds 1 t Y) : ∃ d0, Y = (base v0 v1 v2 d).fetched 1 t d0 :=
  (rd v0 v1 v2 d).finds_in_eq_fetched 1 rfl (fun _ _ _ => rfl) (fun _ _ _ h => h) t Y h

theorem defs₀_proj (t : Fin cfg0.N) : defs₀ (F := F) .tc cfg0.body (cfg0.bodyArgs t (cfg0.slots t)) = Gen.bodyAt0 t := rfl

theorem body_obligation [∀ e, Nonempty (Elt F e)] (d : Dev nD) : (rd v0 v1 v2 d).BodyObligation (defs₀ (F := F)) 𝒱₀ (default : HIx 1) Set.univ := by
  intro t Y hY
  obtain ⟨d0, h0⟩ := finds0 v0 v1 v2 d t _ (hY 0)
  obtain ⟨d1, h1⟩ := finds1 v0 v1 v2 d t _ (hY 1)
  rw [Gen.bigSep_W0, Gen.bigSep_W0, defs₀_proj]
  rw [show (rd v0 v1 v2 d).Φ t.castSucc = iprop(emp) from rfl, show (rd v0 v1 v2 d).Φ t.succ = iprop(emp) from rfl,
    show (rd v0 v1 v2 d).owesAt (default : HIx 1) t.succ = (rd v0 v1 v2 d).owesAt (default : HIx 1) t.castSucc from rfl]
  iintro ⟨-, HO, H0, H1, H2⟩
  iapply (projRun d (grid0.coords t) _ _ _ _ _ _ (Y 0) (Y 1) (Y 2) _)
  isplitl [H0]; · iexact H0
  isplitl [H1]; · iexact H1
  isplitl [H2]; · iexact H2
  iintro ⟨H0, H1, H2⟩
  isplitr; · iempintro
  isplitl [HO]; · iexact HO
  isplitl [H0]; · iexists _; isplitr; swap; (· iexact H0); ipureintro; rfl
  isplitl [H1]; · iexists _; isplitr; swap; (· iexact H1); ipureintro; rfl
  iexists _; isplitr; swap; (· iexact H2); ipureintro
  exact ⟨d0, d1, by rw [h0, h1]⟩

/-! ## The call -/

theorem arr_pts (d : Dev nD) (w : Fin cfg0.W) (q : PosShare TreeShare) (f : Buf (Elt F) ((cfg0.win w).arr.view.loc (d.tc : Thread nD τ))) :
    ((cfg0.win w).arr.view.loc (d.tc : Thread nD τ) ↦[(cfg0.win w).arr.view.set]{q} f : sProp 𝕄)
      = ((cfg0.win w).arr.view.loc (d.tc : Thread nD τ) ↦{q} f) := by
  have h : (cfg0.win w).arr.view.set = Finset.univ := match w with
    | 0 => View.set_whole _ | 1 => View.set_whole _ | 2 => View.set_whole _ | ⟨_ + 3, h⟩ => absurd h (Nat.not_lt.2 (Nat.le_add_left _ _))
  rw [h]

theorem share_full (d : Dev nD) (w : Fin cfg0.W) : (rd v0 v1 v2 d).share w = fullShare := by
  unfold Pipeline.RDat.share; split <;> rfl

theorem arrays_eq (d : Dev nD) : (rd v0 v1 v2 d).arrays (rd v0 v1 v2 d).A
    = iprop(((SparseCore.T d).loc main_v0 ↦{fullShare} (v0 d : Buf (Elt F) ((SparseCore.T d).loc main_v0)))
    ∗ ((SparseCore.T d).loc main_v1 ↦{fullShare} (v1 d : Buf (Elt F) ((SparseCore.T d).loc main_v1)))
    ∗ (aLoc d ↦{fullShare} (v2 d : Buf (Elt F) (aLoc d)))) := by
  unfold Pipeline.RDat.arrays
  rw [Gen.bigSep_W0, arr_pts, arr_pts, arr_pts, share_full, share_full, share_full]
  rfl

theorem arraysAt_out (d : Dev nD) : (rd v0 v1 v2 d).arraysAt cfg0.N
    ⊢ iprop(∃ g : Buf (Elt F) (aLoc d), ⌜(rd v0 v1 v2 d).ArrAt 2 cfg0.N g⌝ ∗ aLoc d ↦{fullShare} g) := by
  unfold Pipeline.RDat.arraysAt
  rw [Gen.bigSep_W0, share_full, share_full, share_full]
  iintro ⟨-, -, ⟨%g, %hg, H⟩⟩
  iexists g; isplitr; (· ipureintro; exact hg)
  iapply (show _ ⊢ _ from entails_eq (arr_pts d 2 fullShare g)) $$ H

/-- What the core owes through the call: its later signals of the SparseCores. -/
def Due (d : Dev nD) : sProp 𝕄 :=
  iprop(∃ W, ⌜(K (F := F)).WBelow (SparseCore.T d) W 0⌝ ∗ owes (SparseCore.T d) ((K (F := F)).Otc d 0) W)

/-- A table the pipeline may leave. -/
def Left (d : Dev nD) (g : S1000000x128.Idx → F .f32) : Prop := (rd v0 v1 v2 d).ArrAt 2 cfg0.N g

theorem due_bound (d : Dev nD) (t : Fin (cfg0.N + 1)) :
    (rd v0 v1 v2 d).bound (default : HIx 1) t = {p | (K (F := F)).lev (SparseCore.T d, p.1) p.2 ≤ 0} := by
  unfold Pipeline.RDat.bound
  refine Set.union_eq_self_of_subset_right ?_
  rintro p ⟨w, s, rfl⟩
  exact le_of_eq ((K (F := F)).lev_none _)

theorem due_iff (d : Dev nD) (t : Fin (cfg0.N + 1)) : (rd v0 v1 v2 d).owesAt (default : HIx 1) t = Due (F := F) d := by
  show Pipeline.owesWithin d ((K (F := F)).Otc d 0) ((rd v0 v1 v2 d).bound (default : HIx 1) t) = _
  rw [due_bound]
  rfl

set_option backward.isDefEq.respectTransparency.types false in
def seg [∀ e, Nonempty (Elt F e)] :
    Pipeline.RDat.RegionSeg (pcfgs (F := F)) adm (rdats v0 v1 v2) (default : HIx 1) (defs₀ (F := F)) 𝒱₀ (K (F := F)).L (K (F := F)).lev 0 where
  win := (Gen.launch0).win.to₀
  block_pos := (Gen.launch0).block_pos
  stage_whole := (Gen.launch0).stage_whole
  K := PEmpty
  osem k := k.elim
  ho := Pipeline.OwnSemFacts.none _
  hbody d := body_obligation v0 v1 v2 d
  hwaits d := Pipeline.RDat.cellsWaits_of_cut _ _ _ 0 d 0 ((K (F := F)).Otc d 0) (fun _ => rfl) (fun _ _ => Finset.mem_univ _)
    (fun _ _ => le_of_eq ((K (F := F)).lev_none _)) (fun g i h => ⟨Finset.mem_univ _, (K (F := F)).lev_of_Otc_pos h⟩)
  pre d := iprop(((SparseCore.T d).loc main_v0 ↦{fullShare} (v0 d : Buf (Elt F) ((SparseCore.T d).loc main_v0)))
    ∗ ((SparseCore.T d).loc main_v1 ↦{fullShare} (v1 d : Buf (Elt F) ((SparseCore.T d).loc main_v1)))
    ∗ (aLoc d ↦{fullShare} (v2 d : Buf (Elt F) (aLoc d))) ∗ Due d)
  post d := iprop((∃ g : Buf (Elt F) (aLoc d), ⌜Left v0 v1 v2 d g⌝ ∗ aLoc d ↦{fullShare} g) ∗ Due d)
  X _ := iprop(emp)
  Y _ := iprop(emp)
  Z _ := iprop(emp)
  hentry d := by
    rw [Pipeline.ownSems0_none, show (rdats v0 v1 v2 0 d) = rd v0 v1 v2 d from rfl, due_iff]
    rw [show (rd v0 v1 v2 d).arrays (rd v0 v1 v2 d).A = _ from arrays_eq v0 v1 v2 d]
    iintro ⟨⟨H0, H1, H2, HO⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]; · iexact HO
    isplitr <;> iempintro
  hin d := by
    rw [show (rdats v0 v1 v2 0 d).Φ 0 = iprop(emp) from rfl]
    iintro -; iempintro
  hout d := by
    rw [Pipeline.ownSems0_none]
    show _ ⊢ iprop(emp ∗ emp ∗ Pipeline.scopedRest spec0 d)
    rw [Gen.scopedRest0_eq]
    iintro -
    isplitr; · iempintro
    isplitr <;> iempintro
  hexit d := by
    rw [show (rdats v0 v1 v2 0 d) = rd v0 v1 v2 d from rfl, due_iff]
    iintro ⟨H, HO, -, -⟩
    ihave H := (arraysAt_out v0 v1 v2 d) $$ H
    imodintro
    isplitl [H]; · iexact H
    iexact HO

end Data

end Cert.Proof.SC
-- ==== Proof.Main.lean ====
/- The launch, @main on the TensorCore and the program's run, generic in the float arithmetic. -/
module

public import proofs.«01_k».proof.Proof.Region

@[expose] public section

noncomputable section

namespace Cert.Proof.SC

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The host operations -/

abbrev r0 : DevRef τ sig := Proc.devRef .tc (main_arg0 : Ref sig .tc)
abbrev r1 : DevRef τ sig := Proc.devRef .tc (main_arg1 : Ref sig .tc)
abbrev r2 : DevRef τ sig := Proc.devRef .tc (main_arg2 : Ref sig .tc)
abbrev w0 : DevRef τ sig := Proc.devRef .tc (main_v0 : Ref sig .tc)
abbrev w1 : DevRef τ sig := Proc.devRef .tc (main_v1 : Ref sig .tc)
abbrev w2 : DevRef τ sig := Proc.devRef .tc (main_v2 : Ref sig .tc)
abbrev w3 : DevRef τ sig := Proc.devRef .tc (main_v3 : Ref sig .tc)
abbrev w4 : DevRef τ sig := Proc.devRef .tc (main_v4 : Ref sig .tc)
abbrev w5 : DevRef τ sig := Proc.devRef .tc (main_v5 : Ref sig .tc)
abbrev w6 : DevRef τ sig := Proc.devRef .tc (main_v6 : Ref sig .tc)
abbrev w7 : DevRef τ sig := Proc.devRef .tc (main_v7 : Ref sig .tc)

abbrev op0 : HloOp τ sig (Elt F) := StableHlo.unary main_arg1 main_v0 ((transpose S64x1000000 [1, 0] · transposes_S1000000x64_S64x1000000_1_0) : (⟨S1000000x64, .f32⟩ : BufTy).Contents (Elt F) → (⟨S64x1000000, .f32⟩ : BufTy).Contents (Elt F))
abbrev op1 : HloOp τ sig (Elt F) := StableHlo.unary main_arg2 main_v1 ((transpose S64x128 [1, 0] · transposes_S128x64_S64x128_1_0) : (⟨S128x64, .f32⟩ : BufTy).Contents (Elt F) → (⟨S64x128, .f32⟩ : BufTy).Contents (Elt F))
abbrev op3 : HloOp τ sig (Elt F) := StableHlo.unary main_arg0 main_v3 ((transpose S26x16384 [1, 0] · transposes_S16384x26_S26x16384_1_0) : (⟨S16384x26, .i32⟩ : BufTy).Contents (Elt F) → (⟨S26x16384, .i32⟩ : BufTy).Contents (Elt F))
abbrev op4 : HloOp τ sig (Elt F) := StableHlo.reshape main_v3 main_v4 (rfl : (.i32 : EltTy) = .i32) shapeCasts_S26x16384_S3328x128
abbrev op6 : HloOp τ sig (Elt F) := StableHlo.reshape main_v5 main_v6 (rfl : (.f32 : EltTy) = .f32) shapeCasts_S425984x128_S26x16384x128
abbrev op7 : HloOp τ sig (Elt F) := StableHlo.unary main_v6 main_v7 ((transpose S16384x26x128 [1, 0, 2] · transposes_S26x16384x128_S16384x26x128_1_0_2) : (⟨S26x16384x128, .f32⟩ : BufTy).Contents (Elt F) → (⟨S16384x26x128, .f32⟩ : BufTy).Contents (Elt F))

/-- The launch valuation. -/
def V0 (d : Dev nD) : Valuation τ sig (Elt F) := fun b => m (d, b)
/-- The transposed table and projection matrix, the table buffer's launch contents, the index words, as the kernels read them. -/
def tabT (d : Dev nD) : S64x1000000.Idx → F .f32 := transpose S64x1000000 [1, 0] (V0 m d r1 : (⟨S1000000x64, .f32⟩ : BufTy).Contents (Elt F)) transposes_S1000000x64_S64x1000000_1_0
def projT (d : Dev nD) : S64x128.Idx → F .f32 := transpose S64x128 [1, 0] (V0 m d r2 : (⟨S128x64, .f32⟩ : BufTy).Contents (Elt F)) transposes_S128x64_S64x128_1_0
def tab0 (d : Dev nD) : S1000000x128.Idx → F .f32 := V0 m d w2
def words (d : Dev nD) : S3328x128.Idx → BitVec 32 :=
  shapeCast S3328x128 (transpose S26x16384 [1, 0] (V0 m d r0 : (⟨S16384x26, .i32⟩ : BufTy).Contents (Elt F)) transposes_S16384x26_S26x16384_1_0 : S26x16384.Idx → BitVec 32) shapeCasts_S26x16384_S3328x128
/-- The result @main returns from what the gather left. -/
def outOf (f : S425984x128.Idx → F .f32) : S16384x26x128.Idx → F .f32 :=
  transpose S16384x26x128 [1, 0, 2] (shapeCast S26x16384x128 f shapeCasts_S425984x128_S26x16384x128 : S26x16384x128.Idx → F .f32) transposes_S26x16384x128_S16384x26x128_1_0_2

theorem held2 (d : Dev nD) (x y : DevRef τ sig) (hx : x ∉ ({y} : Finset (DevRef τ sig))) (W : Valuation τ sig (Elt F)) :
    (held (SparseCore.T d) {x, y} W : sProp 𝕄) = iprop(((d, x) ↦{fullShare} W x) ∗ (d, y) ↦{fullShare} W y) := by
  unfold held
  rw [SparseCore.bigSep_insert' hx, bigSep_singleton]

theorem unscoped_eq (d : Dev nD) (W : (b : Ref sig .tc) → Buf (Elt F) ((d.tc : Thread nD τ).loc b)) :
    (unscopedBufs d W : sProp 𝕄) = iprop((((SparseCore.T d).loc main_arg0) ↦{fullShare} W main_arg0) ∗ (((SparseCore.T d).loc main_arg1) ↦{fullShare} W main_arg1)
      ∗ (((SparseCore.T d).loc main_arg2) ↦{fullShare} W main_arg2) ∗ (((SparseCore.T d).loc main_v0) ↦{fullShare} W main_v0) ∗ (((SparseCore.T d).loc main_v1) ↦{fullShare} W main_v1)
      ∗ (((SparseCore.T d).loc main_v2) ↦{fullShare} W main_v2) ∗ (((SparseCore.T d).loc main_v3) ↦{fullShare} W main_v3) ∗ (((SparseCore.T d).loc main_v4) ↦{fullShare} W main_v4)
      ∗ (((SparseCore.T d).loc main_v5) ↦{fullShare} W main_v5) ∗ (((SparseCore.T d).loc main_v6) ↦{fullShare} W main_v6) ∗ ((SparseCore.T d).loc main_v7) ↦{fullShare} W main_v7) := by
  unfold unscopedBufs
  rw [show (Finset.univ.filter fun b : Ref sig .tc => ¬ b.isScoped)
      = {main_arg0, main_arg1, main_arg2, main_v0, main_v1, main_v2, main_v3, main_v4, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- A host operation on two buffers, its operand and its result. -/
theorem wp_two (d : Dev nD) (op : HloOp τ sig (Elt F)) (x y : DevRef τ sig) (hx : x ∉ ({y} : Finset (DevRef τ sig))) (hS : op.bufs ⊆ {x, y}) (hf : op.fresh = ∅)
    (V : Valuation τ sig (Elt F)) (u : Buf (Elt F) (((d, x) : Loc nD τ sig))) (v w : Buf (Elt F) (((d, y) : Loc nD τ sig)))
    (h1 : V x = u) (h2 : V y = v) (h3 : op.result V x = u) (h4 : op.result V y = w)
    (Q : PUnit → sProp (MT nD τ sig (HIx 1) (Elt F) ℕ UU ℕ)) :
    iprop(boundary (SparseCore.T d) ∗ (((d, x) : Loc nD τ sig) ↦{fullShare} u) ∗ ((d, y) : Loc nD τ sig) ↦{fullShare} v)
      ⊢ iprop(((boundary (SparseCore.T d) ∗ (((d, x) : Loc nD τ sig) ↦{fullShare} u) ∗ ((d, y) : Loc nD τ sig) ↦{fullShare} w) -∗ Q ⟨⟩)
        -∗ wp frame (wpE ((K (F := F)).defs (D (F := F))) 𝒱 (SparseCore.T d) none) Set.univ (hlo rfl op fun _ => .ret ⟨⟩) Q) := by
  iintro H Hk
  iapply (wp_hlo_within 𝒱 (SparseCore.T d) none Set.univ (op := op) (S := {x, y}) hS (V := V) (hf := hf)) $$ [H]
  · rw [held2 d x y hx, h1, h2]; iexact H
  rw [held2 d x y hx, h3, h4]
  iintro H
  rw [wp_ret]; imodintro
  iapply Hk; iexact H

/-! ## The launch element -/

/-- The pipeline's part of it. -/
def pipe₀ : UP := initOf (Pipeline.cells (nD := nD) (τ := τ) (Pipeline.pin (pcfgs (F := F)) adm) Gen.cellOf_inj) (Pipeline.launchToks (nD := nD) (τ := τ) (Pipeline.pin (pcfgs (F := F)) adm) Gen.cellOf_inj)
def u₀ : UU := (initOf (K (F := F)).hsCells (K (F := F)).hsToks, pipe₀ (F := F), 1)

instance EP_landsIn : (EP (F := F)).LandsIn (upEmb : UEmb _ 𝕄) := by unfold EP; infer_instance

/-- A core's staging cells and their transfers' tokens. -/
def Ghosts (d : Dev nD) : sProp 𝕄 :=
  iprop(Pipeline.cellsGhost (Pipeline.pin (pcfgs (F := F)) adm) EP 0 d ∗ Pipeline.toksInit (Pipeline.pin (pcfgs (F := F)) adm) EP 0 d)

theorem hu₀ (fw : Dev nD → S3328x128.Idx → BitVec 32) (Q2 : Dev nD → (S1000000x128.Idx → F .f32) → Prop) : (ownU (u₀ (F := F)) : sProp 𝕄)
    ⊢ |={Set.univ}=> iprop(BI.own (EH (F := F) (initOf (K (F := F)).hsCells (K (F := F)).hsToks)) ∗ (bigSep Finset.univ fun d : Dev nD => Ghosts d)
        ∗ bigSep Finset.univ fun thr : Thread nD τ => bigSep Finset.univ fun q : Fin 1 => (P fw Q2).x q thr) := by
  unfold u₀
  iintro Hu
  ihave H := (ownU_pair (initOf (K (F := F)).hsCells (K (F := F)).hsToks) ((pipe₀ (F := F), 1) : UP × Counters)) $$ Hu
  icases H with ⟨HH, HR⟩
  ihave H := (own_pair_emb (embR : Emb (UP × Counters) 𝕄) (pipe₀ (F := F)) (1 : Counters)) $$ HR
  icases H with ⟨HP, -⟩
  have e : (BI.own (((Emb.inl : Emb UP (UP × Counters)).trans (embR : Emb (UP × Counters) 𝕄)) (pipe₀ (F := F))) : sProp 𝕄) ⊢ iprop(|==> ((bigSep Finset.univ fun c : Dev nD => bigSep Finset.univ fun p => Pipeline.cellsGhost (Pipeline.pin (pcfgs (F := F)) adm) EP p c)
          ∗ (bigSep Finset.univ fun c : Dev nD => bigSep Finset.univ fun p => Pipeline.toksInit (Pipeline.pin (pcfgs (F := F)) adm) EP p c))) :=
    Pipeline.fund_ghost (Pipeline.pin (pcfgs (F := F)) adm) (EP (F := F)) Gen.cellOf_inj
  imod e $$ HP with ⟨Hc, Ht⟩
  imodintro
  isplitl [HH]; · iexact HH
  isplitl [Hc Ht]
  · unfold Ghosts
    rw [bigSep_sep']
    isplitl [Hc]
    · iapply (entails_eq (BI.bigSep_congr fun d _ => bigSep_univ_of_subsingleton (0 : Fin 1))) $$ Hc
    · iapply (entails_eq (BI.bigSep_congr fun d _ => bigSep_univ_of_subsingleton (0 : Fin 1))) $$ Ht
  rw [show (bigSep Finset.univ fun thr : Thread nD τ => bigSep Finset.univ fun q : Fin 1 => (P fw Q2).x q thr) = bigSep Finset.univ fun _ => iprop(emp) from
    BI.bigSep_congr fun _ _ => bigSep_univ_of_subsingleton (0 : Fin 1), show (bigSep Finset.univ fun _ : Thread nD τ => iprop(emp)) = (iprop(emp) : sProp 𝕄) from bigSep_emp_const _]
  iempintro

/-! ## The projection's call -/

/-- The call in the pipelines' own labels, and in @main's. -/
abbrev callP : Prog (TpuEff nD τ sig (Elt F) (ΛP (F := F)) .tc) PUnit := .op (.customCall (Pipeline.entry 0) ()) fun _ => .ret ⟨⟩
theorem callP_lift : (Prog.lift (.customCall (SparseCore.inner (Pipeline.entry 0)) ()) : Prog (TpuEff nD τ sig (Elt F) (SparseCore.Sig (ΛP (F := F)) 1) .tc) PUnit)
    = SparseCore.liftProg (callP (F := F)) := rfl

set_option backward.isDefEq.respectTransparency.types false in
/-- The call of the projection in @main. -/
theorem wp_region [∀ e, Nonempty (Elt F e)] (v0 : Dev nD → S64x1000000.Idx → F .f32) (v1 : Dev nD → S64x128.Idx → F .f32) (v2 : Dev nD → S1000000x128.Idx → F .f32)
    (d : Dev nD) (Q : PUnit → sProp (MT nD τ sig (HIx 1) (Elt F) ℕ UU ℕ)) :
    iprop((iprop(boundary (SparseCore.T d) ∗ (∃ g : Buf (Elt F) (aLoc d), ⌜Left v0 v1 v2 d g⌝ ∗ aLoc d ↦{fullShare} g) ∗ Due d) -∗ Q ⟨⟩)
        ∗ boundary (SparseCore.T d)
        ∗ (((SparseCore.T d).loc main_v0 ↦{fullShare} (v0 d : Buf (Elt F) ((SparseCore.T d).loc main_v0)))
          ∗ ((SparseCore.T d).loc main_v1 ↦{fullShare} (v1 d : Buf (Elt F) ((SparseCore.T d).loc main_v1)))
          ∗ (aLoc d ↦{fullShare} (v2 d : Buf (Elt F) (aLoc d))) ∗ Due d)
        ∗ levAts (K (F := F)).L (K (F := F)).lev ∗ Ghosts d)
      ⊢ wp frame (wpE ((K (F := F)).defs (D (F := F))) 𝒱 (SparseCore.T d) none) Set.univ
          (Prog.lift (.customCall (SparseCore.inner (Pipeline.entry 0)) ())) Q := by
  rw [callP_lift]
  refine BIBase.Entails.trans ?_ ((K (F := F)).wp_liftProg (D (F := F)) 𝒱 (SparseCore.T d) Set.univ none callP Q)
  have hv : ∀ u ∈ (none : Option (𝒱).V), (𝒱).lt (.inr ((Pipeline.pin (pcfgs (F := F)) adm 0).tripCount + 1)) u := fun _ h => absurd h (Option.not_mem_none _)
  have h := Pipeline.RDat.RegionSeg.wp (pcfgs (F := F)) adm (rdats v0 v1 v2) (default : HIx 1) Gen.cellOf_inj EP (defs₀ (F := F)) 𝒱₀ (K (F := F)).L (K (F := F)).lev
    (seg v0 v1 v2) d none hv (fun _ => .ret ⟨⟩) Q
  rw [show (seg v0 v1 v2).pre d = iprop(((SparseCore.T d).loc main_v0 ↦{fullShare} (v0 d : Buf (Elt F) ((SparseCore.T d).loc main_v0)))
      ∗ ((SparseCore.T d).loc main_v1 ↦{fullShare} (v1 d : Buf (Elt F) ((SparseCore.T d).loc main_v1)))
      ∗ (aLoc d ↦{fullShare} (v2 d : Buf (Elt F) (aLoc d))) ∗ Due d) from rfl,
    show (seg v0 v1 v2).post d = iprop((∃ g : Buf (Elt F) (aLoc d), ⌜Left v0 v1 v2 d g⌝ ∗ aLoc d ↦{fullShare} g) ∗ Due d) from rfl] at h
  refine BIBase.Entails.trans ?_ h
  unfold Ghosts
  iintro ⟨Hk, Hb, Hp, Hl, Hc, Ht⟩
  isplitl [Hk]
  · iintro H
    rw [wp_ret]; imodintro
    iapply Hk; iexact H
  isplitl [Hb]; · iexact Hb
  isplitl [Hp]; · iexact Hp
  isplitl [Hl]; · iexact Hl
  isplitl [Hc]; · iexact Hc
  iexact Ht

theorem tcSt_due (d : Dev nD) : ∃ R : sProp (MT nD τ sig (HIx 1) (Elt F) ℕ UU ℕ), (K (F := F)).tcSt EH d 0 = iprop(Due d ∗ R) :=
  ⟨_, by unfold SparseCore.Cfg.tcSt Due; rfl⟩

/-! ## @main -/

/-- A word of the result comes from a table that the projection may leave. -/
def Good (d : Dev nD) (f : S425984x128.Idx → F .f32) : Prop :=
  ∀ j, ∃ g, Left (tabT m) (projT m) (tab0 m) d g ∧ f j = want (words m d) g j

/-- What @main leaves the claim: the arguments as at launch, the result. -/
def FIN (d : Dev nD) : sProp 𝕄 :=
  iprop((((d, r0) : Loc nD τ sig) ↦{fullShare} V0 m d r0) ∗ (((d, r1) : Loc nD τ sig) ↦{fullShare} V0 m d r1) ∗ (((d, r2) : Loc nD τ sig) ↦{fullShare} V0 m d r2)
    ∗ ∃ f, ⌜Good m d f⌝ ∗ (((d, w7) : Loc nD τ sig) ↦{fullShare} (outOf f : Buf (Elt F) ((d, w7) : Loc nD τ sig))))

abbrev PM := P (words m) (Left (tabT m) (projT m) (tab0 m))

theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ Ghosts d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_due (F := F) d
  unfold SparseCore.Cfg.tcRes SparseCore.Cfg.tcEnd
  rw [unscoped_eq, hR]
  simp only [main, wp_bind, wp_pure]
  iintro ⟨#Hctx, ⟨HO, HR⟩, ⟨Hb, ⟨H0, H1, H2, Hw0, Hw1, Hw2, Hw3, Hw4, Hw5, Hw6, Hw7⟩, Hts, -⟩, HG⟩
  iapply (wp_two d op0 r1 w0 (by decide) (Finset.Subset.refl _) rfl (V0 m d) (V0 m d r1) (V0 m d w0) (tabT m d) rfl rfl
    (StableHlo.unary_result_ne _ _ _ _ _ _ (by decide)) (StableHlo.unary_result _ _ _ _ _ _)) $$ [Hb H1 Hw0]
  · isplitl [Hb]; · iexact Hb
    isplitl [H1]; · iexact H1
    iexact Hw0
  iintro ⟨Hb, H1, Hw0⟩
  iapply (wp_two d op1 r2 w1 (by decide) (Finset.Subset.refl _) rfl (V0 m d) (V0 m d r2) (V0 m d w1) (projT m d) rfl rfl
    (StableHlo.unary_result_ne _ _ _ _ _ _ (by decide)) (StableHlo.unary_result _ _ _ _ _ _)) $$ [Hb H2 Hw1]
  · isplitl [Hb]; · iexact Hb
    isplitl [H2]; · iexact H2
    iexact Hw1
  iintro ⟨Hb, H2, Hw1⟩
  iapply (wp_region (tabT m) (projT m) (tab0 m) d)
  isplitr [Hb Hw0 Hw1 Hw2 HO HG]
  swap
  · isplitl [Hb]; · iexact Hb
    isplitl [Hw0 Hw1 Hw2 HO]
    · isplitl [Hw0]; · iexact Hw0
      isplitl [Hw1]; · iexact Hw1
      isplitl [Hw2]; · iexact Hw2
      iexact HO
    isplitr; · iapply (SparseCore.Cfg.ctx_levAts κ); iexact Hctx
    iexact HG
  iintro ⟨Hb, ⟨%g, %hg, Hw2⟩, HO⟩
  iapply (wp_two d op3 r0 w3 (by decide) (Finset.Subset.refl _) rfl (V0 m d) (V0 m d r0) (V0 m d w3) _ rfl rfl
    (StableHlo.unary_result_ne _ _ _ _ _ _ (by decide)) (StableHlo.unary_result _ _ _ _ _ _)) $$ [Hb H0 Hw3]
  · isplitl [Hb]; · iexact Hb
    isplitl [H0]; · iexact H0
    iexact Hw3
  iintro ⟨Hb, H0, Hw3⟩
  iapply (wp_two d op4 w3 w4 (by decide) (Finset.Subset.refl _) rfl (op3.result (V0 m d)) _ (V0 m d w4) (words m d)
    (StableHlo.unary_result _ _ _ _ _ _) (StableHlo.unary_result_ne _ _ _ _ _ _ (by decide))
    ((StableHlo.reshape_result_ne _ _ _ _ _ _ _ (by decide)).trans (StableHlo.unary_result _ _ _ _ _ _))
    ((StableHlo.reshape_result _ _ _ _ _ _ _).trans (by rw [StableHlo.unary_result]; rfl))) $$ [Hb Hw3 Hw4]
  · isplitl [Hb]; · iexact Hb
    isplitl [Hw3]; · iexact Hw3
    iexact Hw4
  iintro ⟨Hb, Hw3, Hw4⟩
  iapply ((K (F := F)).wp_run (D (F := F)) 𝒱 (EH := EH) (P := PM m) κ d 0)
  isplitr; · iexact Hctx
  isplitl [HO HR]
  · ihave H := (entails_eq hR.symm) $$ [HO HR]
    · isplitl [HO]; · iexact HO
      iexact HR
    iexact H
  isplitl [Hw2 Hw4 Hw5]
  · ihave H := (deal d (words m) (Left (tabT m) (projT m) (tab0 m)) ⟨g, hg⟩ (V0 m d w5)) $$ [Hw2 Hw4 Hw5]
    · isplitl [Hw2]; · iexact Hw2
      isplitl [Hw4]; · iexact Hw4
      iexact Hw5
    iexact H
  iintro ⟨Hst, Hdn⟩
  have hc : iprop(bigSep Finset.univ fun c : Fin ((K (F := F)).nCore 0) => (PM m).dn 0 d c) ⊢ _ := collect d (words m) (Left (tabT m) (projT m) (tab0 m)) ⟨g, hg⟩
  ihave Hdn := hc $$ Hdn
  icases Hdn with ⟨%f, %hf, Hw5⟩
  iapply (wp_two d op6 w5 w6 (by decide) (Finset.Subset.refl _) rfl (Function.update (V0 m d) w5 f) f (V0 m d w6) (shapeCast S26x16384x128 f shapeCasts_S425984x128_S26x16384x128)
    (Function.update_self _ _ _) (Function.update_of_ne (by decide) _ _)
    ((StableHlo.reshape_result_ne _ _ _ _ _ _ _ (by decide)).trans (Function.update_self _ _ _))
    ((StableHlo.reshape_result _ _ _ _ _ _ _).trans (by rw [Function.update_self]; rfl))) $$ [Hb Hw5 Hw6]
  · isplitl [Hb]; · iexact Hb
    isplitl [Hw5]; · iexact Hw5
    iexact Hw6
  iintro ⟨Hb, Hw5, Hw6⟩
  iapply (wp_two d op7 w6 w7 (by decide) (Finset.Subset.refl _) rfl (Function.update (V0 m d) w6 (shapeCast S26x16384x128 f shapeCasts_S425984x128_S26x16384x128)) (shapeCast S26x16384x128 f shapeCasts_S425984x128_S26x16384x128) (V0 m d w7) (outOf f)
    (Function.update_self _ _ _) (Function.update_of_ne (by decide) _ _)
    ((StableHlo.unary_result_ne _ _ _ _ _ _ (by decide)).trans (Function.update_self _ _ _))
    ((StableHlo.unary_result _ _ _ _ _ _).trans (by rw [Function.update_self]; rfl))) $$ [Hb Hw6 Hw7]
  · isplitl [Hb]; · iexact Hb
    isplitl [Hw6]; · iexact Hw6
    iexact Hw7
  iintro ⟨Hb, Hw6, Hw7⟩
  imodintro
  isplitl [Hst]; · iexact Hst
  isplitr [Hb Hts]
  · unfold FIN
    isplitl [H0]; · iexact H0
    isplitl [H1]; · iexact H1
    isplitl [H2]; · iexact H2
    iexists f
    isplitr; · ipureintro; exact hf
    iexact Hw7
  isplitl [Hb]; · iexact Hb
  iexact Hts

/-! ## The run -/

/-- The arguments unchanged, and the result as the gather left it. -/
def fq (d : Dev nD) (s' : Phys nD τ sig (Elt F)) : Prop :=
  s'.mem.mem (d, r0) = V0 m d r0 ∧ s'.mem.mem (d, r1) = V0 m d r1 ∧ s'.mem.mem (d, r2) = V0 m d r2 ∧ ∃ f, Good m d f ∧ s'.mem.mem (d, w7) = outOf f

theorem agree (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN
  iintro ⟨⟨H0, H1, H2, %f, %hf, H7⟩, HSI⟩
  ihave H := (agree (d, r0) (V0 m d r0) s') $$ [H0 HSI]
  · isplitl [H0] <;> iassumption
  icases H with ⟨%h0, HSI⟩
  ihave H := (agree (d, r1) (V0 m d r1) s') $$ [H1 HSI]
  · isplitl [H1] <;> iassumption
  icases H with ⟨%h1, HSI⟩
  ihave H := (agree (d, r2) (V0 m d r2) s') $$ [H2 HSI]
  · isplitl [H2] <;> iassumption
  icases H with ⟨%h2, HSI⟩
  ihave H := (agree (d, w7) (outOf f : Buf (Elt F) ((d, w7) : Loc nD τ sig)) s') $$ [H7 HSI]
  · isplitl [H7] <;> iassumption
  icases H with ⟨%h7, -⟩
  ipureintro; exact ⟨h0, h1, h2, f, hf, h7⟩

def QC : PUnit × MemSt nD τ sig (Elt F) → Prop := fun r =>
  (∀ d : Dev nD, r.2.mem (d, r0) = V0 m d r0 ∧ r.2.mem (d, r1) = V0 m d r1 ∧ r.2.mem (d, r2) = V0 m d r2 ∧ ∃ f, Good m d f ∧ r.2.mem (d, w7) = outOf f)
    ∧ r.2.sem = fun _ => 0

theorem run_main [∀ e, Nonempty (Elt F e)] (hw : ∀ d j, (words m d j).toNat < 1000000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (words m) (Left (tabT m) (projT m) (tab0 m)) facts hw)
    (fun q _ => match q with | 0 => SparseCore.Cfg.VecSplit.of_plain (vecSplit (words m) (Left (tabT m) (projT m) (tab0 m))))
    m ρ main Ghosts (FIN m) (u₀ (F := F)) (sep_elim_left.trans (hu₀ (words m) (Left (tabT m) (projT m) (tab0 m)))) (hmain m ρ) (fq m) (hfin m) (QC m) (fun _ h hz => ⟨h, hz⟩)

end Cert.Proof.SC
-- ==== Proof.Frames.lean ====
/- The claims that need no arithmetic: the programs' frames and the named constant. -/
module

public import proofs.«01_k».proof.Defs
public import proofs.«01_k».proof.Proof.Main
public import proofs.«01_k».proof.Proof.Gen.Kernel
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import Idealize.ShloMosaic.Init

@[expose] public section

noncomputable section

namespace Cert.Proof

open Idealize.ShloMosaic Idealize.SL.Sem

/-! ## The precondition's own shape facts -/

instance rows_facts : Cert.Pre_rows_in_table.Facts where
  bcast_S_S16384x26 := by decide

/-! ## The precondition read back -/

/-- A word that is at least 0 and below 1000000 as a signed number is below 1000000 as a natural number. -/
theorem toNat_lt (v : BitVec 32) (e : IntOp.andi (IntOp.cmpi .sge v 0#32) (IntOp.cmpi .slt v 1000000#32) = 1#1) : v.toNat < 1000000 := by
  obtain ⟨e0, e1⟩ := IntOp.andi_eq_one.1 e
  have ofBool_eq_one (p : Bool) : (BitVec.ofBool p = 1#1) ↔ p = true := by cases p <;> decide
  simp only [IntOp.cmpi, ofBool_eq_one, BitVec.sle_eq_decide, BitVec.slt_eq_decide,
    decide_eq_true_eq, BitVec.toInt_eq_toNat_cond, BitVec.toNat_ofNat, Nat.reducePow, Nat.reduceMod] at e0 e1
  omega

/-- The index range, from the precondition on the words alone. -/
theorem range_of_rows {F : FTy → Type} [FloatOps F] (x : IVec Cert.Pre_rows_in_table.S16384x26 32) (t : FVec F Cert.Pre_rows_in_table.S1000000x64 .f32)
    (w : FVec F Cert.Pre_rows_in_table.S128x64 .f32) (h : Cert.Pre_rows_in_table.fn x t w = fun _ => 1#1) (j : Cert.Pre_rows_in_table.S16384x26.Idx) :
    (x j).toNat < 1000000 := toNat_lt (x j) (congrFun h j)

/-- Each word the gather reads is one of the argument's. -/
theorem words_lt {F : FTy → Type} [FloatOps F] [Named F] (m : (ℓ : Loc Cert.KernelIdeal.nD Cert.KernelIdeal.τ Cert.KernelIdeal.sig) → Buf (Elt F) ℓ)
    (h : ∀ d (j : Cert.KernelIdeal.S16384x26.Idx), ((SC.V0 m d SC.r0 : Cert.KernelIdeal.S16384x26.Idx → BitVec 32) j).toNat < 1000000) (d) (j) :
    (SC.words m d j).toNat < 1000000 := h d _

/-! ## The frames -/

/-- A value for each named constant in the bit arithmetic: its own word. -/
@[reducible] def bitsNamed : Named Bits := ⟨fun _ _ {φ} b => FloatOps.ofBits φ b⟩

attribute [local instance] bitsNamed

/-! At that reading the two kernels are one program, part by part. -/

theorem body0_eq : @Cert.Kernel.cc0__proj_body Bits _ _ = @Cert.KernelIdeal.cc0__proj_body Bits _ _ _ := rfl
theorem part1_eq : Cert.Kernel.k1_part1 (F := Bits) = Cert.KernelIdeal.k1_part1 (F := Bits) := rfl
theorem part2_eq : Cert.Kernel.k1_part2 (F := Bits) = Cert.KernelIdeal.k1_part2 (F := Bits) := rfl
theorem part3_eq : Cert.Kernel.k1_part3 (F := Bits) = Cert.KernelIdeal.k1_part3 (F := Bits) := rfl
theorem part4_eq : Cert.Kernel.k1_part4 (F := Bits) = Cert.KernelIdeal.k1_part4 (F := Bits) := rfl
theorem part5_eq : Cert.Kernel.k1_part5 (F := Bits) = Cert.KernelIdeal.k1_part5 (F := Bits) := rfl
theorem body1_eq : Cert.Kernel.cc1_gather_kernel (F := Bits) = Cert.KernelIdeal.cc1_gather_kernel (F := Bits) := rfl

theorem defs0_eq : Cert.Kernel.defs₀ (F := Bits) = Cert.KernelIdeal.defs₀ (F := Bits) := by
  funext c ℓ a
  match c, ℓ, a with
  | .tc, 0, (t, s) => rfl
  | .tc, 1, _ => rfl
  | .scVector c s, 0, _ => rfl
  | .scVector c s, 1, _ => rfl
  | .scScalar c, 0, _ => rfl
  | .scScalar c, 1, _ => rfl

theorem defs_eq : Cert.Kernel.defs (F := Bits) = Cert.KernelIdeal.defs (F := Bits) :=
  congrArg (fun D => (Cert.KernelIdeal.sc (F := Bits)).defs (Pipeline.defs Cert.KernelIdeal.pcfgs D)) defs0_eq
theorem main_eq : Cert.Kernel.main (F := Bits) = Cert.KernelIdeal.main (F := Bits) := rfl
theorem threads_eq : Cert.Kernel.threads (F := Bits) = Cert.KernelIdeal.threads (F := Bits) := rfl

theorem frame_kernel : Cert.quiescent_Kernel := fun m ρ hpre =>
  (congrArg₂ (fun D T => θ_run D T _ _) defs_eq threads_eq).mpr
    ((θ_run (Cert.KernelIdeal.defs (F := Bits)) (Cert.KernelIdeal.threads (F := Bits)) _).mono
      (fun (r) (h : SC.QC (F := Bits) m r) => ⟨fun c => ⟨(h.1 c).1, (h.1 c).2.1, (h.1 c).2.2.1⟩, h.2⟩)
      (SC.run_main (F := Bits) m ρ (words_lt (F := Bits) m fun d j => range_of_rows _ _ _ (hpre d) j)))

/-- The idealized kernel's frame, from the index range. -/
theorem frame_ideal_of (m : (ℓ : Loc Cert.KernelIdeal.nD Cert.KernelIdeal.τ Cert.KernelIdeal.sig) → Buf (Elt Ideal) ℓ) (ρ : Dev Cert.KernelIdeal.nD → PrngReg)
    (h : ∀ d (j : Cert.KernelIdeal.S16384x26.Idx), ((SC.V0 m d SC.r0 : Cert.KernelIdeal.S16384x26.Idx → BitVec 32) j).toNat < 1000000) :
    θ_run (Cert.KernelIdeal.defs (F := Ideal)) (Cert.KernelIdeal.threads (F := Ideal)) ⟨m, fun _ => 0, ρ⟩ (SC.QC m) :=
  SC.run_main (F := Ideal) m ρ (words_lt m h)

theorem frame_ideal : Cert.quiescent_KernelIdeal := fun m ρ hpre =>
  (θ_run Cert.KernelIdeal.defs _ _).mono (fun _ h => ⟨fun c => ⟨(h.1 c).1, (h.1 c).2.1, (h.1 c).2.2.1⟩, h.2⟩)
    (frame_ideal_of m ρ fun d j => range_of_rows _ _ _ (hpre d) j)

theorem frame_reference_bits : Cert.quiescent_Reference := fun m ρ _ =>
  (θ_run Cert.Reference.defs _ _).mono (fun r h => ⟨fun c => (h c).2, Idealize.ShloMosaic.sem_eq_zero_of_no_sems (by decide) r.2⟩)
    (Cert.Reference.Value.run (F := Bits) m ρ)

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_reference_rows : Cert.quiescent_ReferenceIdeal_pre_rows_in_table := fun m ρ _ => frame_reference m ρ trivial

/-! ## The named constant -/

theorem preserves : Cert.preserves_Kernel_KernelIdeal :=
  IdealRules.named_const.statement Cert.KernelIdeal.κ "eps_sq" .f32 0x179ABE15#32 ((5316911940649 / 5316911983139663491615228241121378304 : ℝ) : EReal) rfl

end Cert.Proof

end
-- ==== Proof.Norm.lean ====
/- The arithmetic the two programs share: a row of the table times the projection matrix, divided by its norm.
   The kernel multiplies by the reciprocal root of the clamped square; the reference divides by the clamped root. -/
module

public import Idealize.ShloMosaic.PureOps.Ideal
public import Idealize.ShloMosaic.PureOps.Ideal.Laws

@[expose] public section

noncomputable section

namespace Cert.Proof.Norm

open Idealize.ShloMosaic

/-- A row times the matrix. -/
def proj (a : Fin 64 → EReal) (W : Fin 128 → Fin 64 → EReal) (j : Fin 128) : EReal := ∑ k, a k * W j k

/-- The sum of the squares of the projected row. -/
def sq (a : Fin 64 → EReal) (W : Fin 128 → Fin 64 → EReal) : EReal := ∑ j, proj a W j * proj a W j

/-- The reference's clamp and the kernel's, its square. -/
def clamp : EReal := Ideal.ofBits .f32 0x2B8CBCCC#32
def clampSq : EReal := ((5316911940649 / 5316911983139663491615228241121378304 : ℝ) : EReal)

/-- The projected row over its clamped norm. -/
def unit (a : Fin 64 → EReal) (W : Fin 128 → Fin 64 → EReal) (j : Fin 128) : EReal :=
  Ideal.div (proj a W j) (max (Ideal.sqrt (sq a W)) clamp)

theorem clamp_eq : clamp = ((9223372 / 9223372036854775808 : ℝ) : EReal) := by
  simp [clamp, Ideal.ofBits, Ideal.ieee, -EReal.coe_mul]; norm_num

theorem coe_sum {ι : Type} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

theorem coe_max (x y : ℝ) : ((max x y : ℝ) : EReal) = max (x : EReal) (y : EReal) := EReal.coe_strictMono.monotone.map_max

/-- On real numbers the product with the reciprocal root is the quotient by the root, both clamped. -/
theorem mul_rsqrt_eq (h s c : ℝ) (hs : 0 ≤ s) (hc : 0 < c) :
    (h : EReal) * Ideal.rsqrt (max (s : EReal) ((c * c : ℝ) : EReal)) = Ideal.div (h : EReal) (max (Ideal.sqrt (s : EReal)) (c : EReal)) := by
  have hm : max (s : EReal) ((c * c : ℝ) : EReal) = ((max s (c * c) : ℝ) : EReal) := (coe_max _ _).symm
  have hp : 0 < max s (c * c) := lt_max_of_lt_right (mul_pos hc hc)
  have hr : Real.sqrt (max s (c * c)) = max (Real.sqrt s) c := by
    rw [Real.sqrt_monotone.map_max, Real.sqrt_mul_self hc.le]
  rw [hm, Ideal.rsqrt_coe, if_neg (not_lt.mpr hp.le), if_neg hp.ne', Ideal.sqrt_coe, if_neg (not_lt.mpr hs), ← coe_max,
    Ideal.div_coe (lt_max_of_lt_right hc).ne', hr, one_div]

/-! ## Numbers that are not real

The kernel adds to the product what its operands leave after their high parts: nothing of a real number, and the junk
value of an infinity. A product that is real has no infinity but against a zero; one that is not makes the norm
infinite on both sides, and the row is zero. -/

theorem real_of_add {x y : EReal} (h : ∃ r : ℝ, x + y = (r : EReal)) : (∃ r : ℝ, x = (r : EReal)) ∧ ∃ r : ℝ, y = (r : EReal) := by
  obtain ⟨r, h⟩ := h
  induction x with
  | bot => simp at h
  | top => induction y with
    | bot => simp at h
    | top => simp at h
    | coe b => simp at h
  | coe a => induction y with
    | bot => simp at h
    | top => simp at h
    | coe b => exact ⟨⟨a, rfl⟩, ⟨b, rfl⟩⟩

theorem real_of_sum {ι : Type} [DecidableEq ι] (s : Finset ι) (f : ι → EReal) (h : ∃ r : ℝ, ∑ i ∈ s, f i = (r : EReal)) : ∀ i ∈ s, ∃ r : ℝ, f i = (r : EReal) := by
  intro i hi
  rw [← Finset.add_sum_erase s f hi] at h
  exact (real_of_add h).1

/-- An infinity times anything but zero is an infinity. -/
theorem eq_zero_of_inf_mul {x y : EReal} (hx : ¬ ∃ r : ℝ, x = (r : EReal)) (h : ∃ r : ℝ, x * y = (r : EReal)) : y = 0 := by
  by_contra hy
  obtain ⟨r, h⟩ := h
  rcases lt_or_gt_of_ne hy with hn | hp
  · induction x with
    | bot => rw [EReal.bot_mul_of_neg hn] at h; exact EReal.top_ne_coe r h
    | top => rw [EReal.top_mul_of_neg hn] at h; exact EReal.bot_ne_coe r h
    | coe a => exact hx ⟨a, rfl⟩
  · induction x with
    | bot => rw [EReal.bot_mul_of_pos hp] at h; exact EReal.bot_ne_coe r h
    | top => rw [EReal.top_mul_of_pos hp] at h; exact EReal.top_ne_coe r h
    | coe a => exact hx ⟨a, rfl⟩

theorem sub_self_mul {x y : EReal} (h : ∃ r : ℝ, x * y = (r : EReal)) : (x - x) * y = 0 := by
  by_cases hx : ∃ r : ℝ, x = (r : EReal)
  · obtain ⟨r, rfl⟩ := hx
    rw [← EReal.coe_sub, sub_self, EReal.coe_zero, zero_mul]
  · rw [eq_zero_of_inf_mul hx h, mul_zero]

theorem mul_self_of_inf {x : EReal} (hx : ¬ ∃ r : ℝ, x = (r : EReal)) : x * x = ⊤ := by
  induction x with
  | bot => exact EReal.bot_mul_bot
  | top => exact EReal.top_mul_top
  | coe a => exact absurd ⟨a, rfl⟩ hx

theorem mul_self_nonneg' (x : EReal) : 0 ≤ x * x := by
  induction x with
  | bot => rw [EReal.bot_mul_bot]; exact le_top
  | top => rw [EReal.top_mul_top]; exact le_top
  | coe a => exact_mod_cast mul_self_nonneg a

/-- A sum of squares of which one is infinite. -/
theorem squares_of_inf (p : Fin 128 → EReal) (i : Fin 128) (hi : ¬ ∃ r : ℝ, p i = (r : EReal)) : ∑ j, p j * p j = ⊤ := by
  rw [← Finset.add_sum_erase Finset.univ (fun j => p j * p j) (Finset.mem_univ i), mul_self_of_inf hi]
  exact EReal.top_add_of_ne_bot (ne_bot_of_le_ne_bot EReal.zero_ne_bot (Finset.sum_nonneg fun j _ => mul_self_nonneg' (p j)))

/-! ## The kernel's form -/

/-- The projected row as the kernel adds it up: the product, and the products with what is left of either factor. -/
def split (a : Fin 64 → EReal) (W : Fin 128 → Fin 64 → EReal) (j : Fin 128) : EReal :=
  (∑ k, a k * W j k) + ((∑ k, (a k - a k) * W j k) + ∑ k, a k * (W j k - W j k))

theorem split_eq (a : Fin 64 → EReal) (W : Fin 128 → Fin 64 → EReal) (j : Fin 128) (h : ∃ r : ℝ, proj a W j = (r : EReal)) : split a W j = proj a W j := by
  have ht := real_of_sum _ _ h
  have e0 : ∑ k, (a k - a k) * W j k = 0 := Finset.sum_eq_zero fun k hk => sub_self_mul (ht k hk)
  have e1 : ∑ k, a k * (W j k - W j k) = 0 := Finset.sum_eq_zero fun k hk => by
    rw [mul_comm]; exact sub_self_mul (by rw [mul_comm]; exact ht k hk)
  unfold split
  rw [e0, e1, add_zero, add_zero]; rfl

theorem split_of_inf (a : Fin 64 → EReal) (W : Fin 128 → Fin 64 → EReal) (j : Fin 128) (h : ¬ ∃ r : ℝ, proj a W j = (r : EReal)) : ¬ ∃ r : ℝ, split a W j = (r : EReal) :=
  fun hs => h (real_of_add hs).1

/-- The kernel's form of a projected row over its norm is the reference's. -/
theorem unit_eq (a : Fin 64 → EReal) (W : Fin 128 → Fin 64 → EReal) (j : Fin 128) :
    split a W j * Ideal.rsqrt (max (∑ i, split a W i * split a W i) clampSq) = unit a W j := by
  by_cases h : ∀ i, ∃ r : ℝ, proj a W i = (r : EReal)
  · have hs (i) : split a W i = proj a W i := split_eq a W i (h i)
    choose p hp using h
    have hq : sq a W = ((∑ i, p i * p i : ℝ) : EReal) := by
      rw [coe_sum]; exact Finset.sum_congr rfl fun i _ => by rw [hp, EReal.coe_mul]
    have hc : clampSq = ((9223372 / 9223372036854775808 * (9223372 / 9223372036854775808) : ℝ) : EReal) := by
      unfold clampSq; congr 1; norm_num
    have hq' : ∑ i, split a W i * split a W i = sq a W := Finset.sum_congr rfl fun i _ => by rw [hs]
    unfold unit
    rw [hs, hq', hp, hq, hc, clamp_eq]
    exact mul_rsqrt_eq _ _ _ (Finset.sum_nonneg fun i _ => mul_self_nonneg _) (by norm_num)
  · obtain ⟨i, hi⟩ := not_forall.mp h
    have hq : sq a W = ⊤ := squares_of_inf (proj a W) i hi
    unfold unit
    rw [squares_of_inf (split a W) i (split_of_inf a W i hi), hq, Ideal.sqrt_top, max_eq_left le_top, max_eq_left le_top, Ideal.rsqrt_top, mul_zero, Ideal.div,
      if_neg EReal.top_ne_zero, EReal.inv_top, mul_zero]

end Cert.Proof.Norm

end
-- ==== Proof.Payload.lean ====
/- What the projection kernel's body stores, read at an index over the extended reals: the row's projection over
   its norm. -/
module

public import proofs.«01_k».proof.Proof.Norm
public import proofs.«01_k».proof.Proof.Gen.KernelIdeal.Skeleton
public import Idealize.ShloMosaic.Lib.MatmulPlain
public import Idealize.ShloMosaic.Lib.Pipeline.Value
public import Idealize.ShloMosaic.PureOps.IdealRules

@[expose] public section

noncomputable section

namespace Cert.Proof.Payload

open Idealize.ShloMosaic Idealize.SL.Sem Cert.KernelIdeal Cert.KernelIdeal.Gen
open Idealize.ShloMosaic.ValueIdx (ix2)

/-- A product into a zero accumulator, read at a row and a column. -/
theorem matmul_zero {M K N : ℕ} {φ₁ φ₂ : FTy} (lhs : FVec Ideal ⟨2, ![M, K]⟩ φ₁) (rhs : FVec Ideal ⟨2, ![K, N]⟩ φ₂) (r : Fin M) (c : Fin N) :
    matmul (DotDims.plain M K N) none lhs rhs (constant ⟨2, ![M, N]⟩ .f32 0x00000000#32) (ix2 r c) = ∑ k : Fin K, lhs (ix2 r k) * rhs (ix2 k c) := by
  simp only [matmul]
  rw [Ideal.matmul_plain_apply]
  show Ideal.ofBits .f32 0#32 + _ = _
  rw [Ideal.ofBits_zero_f32, zero_add]

theorem one_bf16 : Ideal.ofBits .bf16 0x3F80#16 = 1 := by
  simp [Ideal.ofBits, Ideal.ieee, -EReal.coe_mul]
  norm_num [← EReal.coe_one, ← EReal.coe_mul]

variable (Y0 : Vec Ideal S64x24576 .f32) (Y1 : Vec Ideal S64x128 .f32)

/-- The table's block with its rows down, and what is left of a block after its high part. -/
def rowsOf : FVec Ideal S24576x64 .f32 := transpose S24576x64 [1, 0] (shapeCast S64x24576 Y0 shapeCasts_S64x24576_S64x24576) transposes_S64x24576_p1_0_S24576x64
def hi {s : Shape} (x : FVec Ideal s .f32) : FVec Ideal s .bf16 := truncf .bf16 x bitsLt_bf16_f32
def lo {s : Shape} (x : FVec Ideal s .f32) : FVec Ideal s .bf16 := truncf .bf16 (subf x (extf .f32 (hi x) bitsLt_bf16_f32)) bitsLt_bf16_f32
def dotIn (x : FVec Ideal S24576x64 .bf16) (y : FVec Ideal S64x128 .bf16) : FVec Ideal S24576x128 .f32 :=
  matmul dot_S24576x64_S64x128_S24576x128_1_0_0_1_n_n none x y (constant S24576x128 .f32 0x00000000#32)
def mat : FVec Ideal S64x128 .f32 := shapeCast S64x128 Y1 shapeCasts_S64x128_S64x128

/-- The projected rows: the product of the high parts and the two cross products. -/
def projected : FVec Ideal S24576x128 .f32 :=
  addf (dotIn (hi (rowsOf Y0)) (hi (mat Y1))) (addf (dotIn (lo (rowsOf Y0)) (hi (mat Y1))) (dotIn (hi (rowsOf Y0)) (lo (mat Y1))))

/-- The rows' sums of squares, in eight equal columns. -/
def squares : FVec Ideal S24576x8 .f32 :=
  matmul dot_S24576x128_S128x8_S24576x8_1_0_0_1_n_n none (mulf (hi (projected Y0 Y1)) (hi (projected Y0 Y1)))
    (broadcast S128x8 (Scalar.ofBits .bf16 0x3F80#16)) (constant S24576x8 .f32 0x00000000#32)

def scales : FVec Ideal S24576x1 .f32 :=
  rsqrt (maximumf (extractStridedSlice S24576x1 ![0, 0] (squares Y0 Y1) slices_S24576x8_o0_0_S24576x1) (broadcast S24576x1 (Named.named κ "eps_sq" 0x179ABE15#32)))

theorem pay_eq : k0_pay1 Y0 Y1 = mulf (projected Y0 Y1)
    (broadcastTo S24576x128 (shapeCast S24576x1 (scales Y0 Y1) shapeCasts_S24576x1_S24576x1) broadcasts_S24576x1_S24576x128) := rfl

theorem rowsOf_apply (r : Fin 24576) (k : Fin 64) : rowsOf Y0 (ix2 r k) = Y0 (ix2 k r) := by
  unfold rowsOf
  rw [shapeCast_self]
  exact transpose_apply _ _ _ _ _ fun b => match b with | ⟨0, _⟩ => rfl | ⟨1, _⟩ => rfl

theorem mat_eq : mat Y1 = Y1 := shapeCast_self _ _

theorem dot_in_eq : dot_S24576x64_S64x128_S24576x128_1_0_0_1_n_n = DotDims.plain 24576 64 128 := rfl
theorem dot_sq_eq : dot_S24576x128_S128x8_S24576x8_1_0_0_1_n_n = DotDims.plain 24576 128 8 := rfl

theorem dotIn_apply (x : FVec Ideal S24576x64 .bf16) (y : FVec Ideal S64x128 .bf16) (r : Fin 24576) (c : Fin 128) :
    dotIn x y (ix2 r c) = ∑ k : Fin 64, x (ix2 r k) * y (ix2 k c) := by
  unfold dotIn
  rw [dot_in_eq]
  exact matmul_zero x y r c

section
variable (r : Fin 24576)

theorem projected_apply (c : Fin 128) : projected Y0 Y1 (ix2 r c) = Norm.split (fun k => Y0 (ix2 k r)) (fun j k => Y1 (ix2 k j)) c := by
  have a (k : Fin 64) : (rowsOf Y0 (ix2 r k) : EReal) = Y0 (ix2 k r) := rowsOf_apply Y0 r k
  have b (k : Fin 64) : (mat Y1 (ix2 k c) : EReal) = Y1 (ix2 k c) := congrFun (mat_eq Y1) _
  have e0 : dotIn (lo (rowsOf Y0)) (hi (mat Y1)) (ix2 r c) = (∑ k : Fin 64, (Y0 (ix2 k r) - Y0 (ix2 k r)) * Y1 (ix2 k c) : EReal) :=
    (dotIn_apply _ _ r c).trans (Finset.sum_congr rfl fun k _ => congrArg₂ (fun x y : EReal => (x - x) * y) (a k) (b k))
  have e1 : dotIn (hi (rowsOf Y0)) (lo (mat Y1)) (ix2 r c) = (∑ k : Fin 64, Y0 (ix2 k r) * (Y1 (ix2 k c) - Y1 (ix2 k c)) : EReal) :=
    (dotIn_apply _ _ r c).trans (Finset.sum_congr rfl fun k _ => congrArg₂ (fun x y : EReal => x * (y - y)) (a k) (b k))
  have e2 : dotIn (hi (rowsOf Y0)) (hi (mat Y1)) (ix2 r c) = (∑ k : Fin 64, Y0 (ix2 k r) * Y1 (ix2 k c) : EReal) :=
    (dotIn_apply _ _ r c).trans (Finset.sum_congr rfl fun k _ => congrArg₂ (fun x y : EReal => x * y) (a k) (b k))
  show (dotIn (hi (rowsOf Y0)) (hi (mat Y1)) (ix2 r c) + (dotIn (lo (rowsOf Y0)) (hi (mat Y1)) (ix2 r c) + dotIn (hi (rowsOf Y0)) (lo (mat Y1)) (ix2 r c)) : EReal) = _
  rw [e0, e1, e2]
  rfl

theorem squares_apply (c : Fin 8) : squares Y0 Y1 (ix2 r c) = (∑ j, Norm.split (fun k => Y0 (ix2 k r)) (fun j k => Y1 (ix2 k j)) j * Norm.split (fun k => Y0 (ix2 k r)) (fun j k => Y1 (ix2 k j)) j : EReal) := by
  unfold squares
  rw [dot_sq_eq]
  refine (matmul_zero _ _ r c).trans (Finset.sum_congr rfl fun j _ => ?_)
  show (projected Y0 Y1 (ix2 r j) * projected Y0 Y1 (ix2 r j) * Ideal.ofBits .bf16 0x3F80#16 : EReal) = _
  rw [one_bf16, mul_one, projected_apply Y0 Y1 r j]

theorem scales_apply : scales Y0 Y1 (ix2 r 0) = Ideal.rsqrt (max (∑ j, Norm.split (fun k => Y0 (ix2 k r)) (fun j k => Y1 (ix2 k j)) j * Norm.split (fun k => Y0 (ix2 k r)) (fun j k => Y1 (ix2 k j)) j) Norm.clampSq) := by
  have e : extractStridedSlice S24576x1 ![0, 0] (squares Y0 Y1) slices_S24576x8_o0_0_S24576x1 (ix2 r 0) = squares Y0 Y1 (ix2 r 0) :=
    extractStridedSlice_apply _ _ _ _ _ fun a => match a with | ⟨0, _⟩ => (Nat.zero_add _).symm | ⟨1, _⟩ => rfl
  have n : Named.named (F := Ideal) κ "eps_sq" (φ := .f32) 0x179ABE15#32 = Norm.clampSq := IdealRules.named_const.ideal_named_scalar κ "eps_sq" _ _ rfl
  show Ideal.rsqrt (max (extractStridedSlice S24576x1 ![0, 0] (squares Y0 Y1) slices_S24576x8_o0_0_S24576x1 (ix2 r 0)) (Named.named (F := Ideal) κ "eps_sq" (φ := .f32) 0x179ABE15#32)) = _
  rw [e, n, squares_apply Y0 Y1 r 0]

/-- One element of the body's result. -/
theorem pay_apply (c : Fin 128) : k0_pay1 Y0 Y1 (ix2 r c) = Norm.unit (fun k => Y0 (ix2 k r)) (fun j k => Y1 (ix2 k j)) c := by
  have e : broadcastTo S24576x128 (shapeCast S24576x1 (scales Y0 Y1) shapeCasts_S24576x1_S24576x1) broadcasts_S24576x1_S24576x128 (ix2 r c) = scales Y0 Y1 (ix2 r 0) := by
    rw [shapeCast_self]
    exact broadcastTo_apply _ _ _ _ fun a => match a with | ⟨0, _⟩ => rfl | ⟨1, _⟩ => rfl
  rw [pay_eq]
  show (projected Y0 Y1 (ix2 r c) * broadcastTo S24576x128 (shapeCast S24576x1 (scales Y0 Y1) shapeCasts_S24576x1_S24576x1) broadcasts_S24576x1_S24576x128 (ix2 r c) : EReal) = _
  rw [e, projected_apply Y0 Y1 r c, scales_apply Y0 Y1 r]
  exact Norm.unit_eq _ _ c
end

end Cert.Proof.Payload

end
-- ==== Proof.Rows.lean ====
/- The scratch table the projection region leaves, over the extended reals: each row is the projected row of the
   argument table over its norm, block by block, the last block short. -/
module

public import proofs.«01_k».proof.Proof.Region
public import proofs.«01_k».proof.Proof.Payload
public import Idealize.ShloMosaic.Lib.Pipeline.ValueKit.Geometry

@[expose] public section

noncomputable section

namespace Cert.Proof.SC

open Idealize.ShloMosaic Idealize.SL.Sem Cert.KernelIdeal
open Idealize.ShloMosaic.ValueIdx (ix2)

/-! ## Where a block lies -/

theorem at0 : ∀ t : Fin grid0.N, cc0_transform_0 (grid0.coords t) 0 = 0 ∧ cc0_transform_0 (grid0.coords t) 1 = t.val := by decide
theorem at2 : ∀ t : Fin grid0.N, cc0_transform_2 (grid0.coords t) 0 = t.val ∧ cc0_transform_2 (grid0.coords t) 1 = 0 := by decide

theorem emb0 (t : Fin grid0.N) (x : (win0_0.xblock (grid0.coords t)).Idx) :
    (((win0_0.blk t).view.emb x 0 : Fin _) : Nat) = x 0 ∧ (((win0_0.blk t).view.emb x 1 : Fin _) : Nat) = 24576 * t + x 1 := by
  refine ⟨(ValueKit.view_emb_slice_whole_unit_val main_v0 _ _ _ x 0).trans ?_, (ValueKit.view_emb_slice_whole_unit_val main_v0 _ _ _ x 1).trans ?_⟩
  · show cc0_transform_0 (grid0.coords t) 0 * 64 + _ = _
    rw [(at0 t).1, Nat.zero_mul, Nat.zero_add]
  · show cc0_transform_0 (grid0.coords t) 1 * 24576 + _ = _
    rw [(at0 t).2, Nat.mul_comm]

theorem emb1 (t : Fin grid0.N) (x : (win0_1.xblock (grid0.coords t)).Idx) :
    (((win0_1.blk t).view.emb x 0 : Fin _) : Nat) = x 0 ∧ (((win0_1.blk t).view.emb x 1 : Fin _) : Nat) = x 1 :=
  ⟨(ValueKit.view_emb_slice_whole_unit_val main_v1 _ _ _ x 0).trans (Nat.zero_add _), (ValueKit.view_emb_slice_whole_unit_val main_v1 _ _ _ x 1).trans (Nat.zero_add _)⟩

theorem emb2 (t : Fin grid0.N) (x : (win0_2.xblock (grid0.coords t)).Idx) :
    (((win0_2.blk t).view.emb x 0 : Fin _) : Nat) = 24576 * t + x 0 ∧ (((win0_2.blk t).view.emb x 1 : Fin _) : Nat) = x 1 := by
  refine ⟨(ValueKit.view_emb_slice_whole_unit_val main_v2 _ _ _ x 0).trans ?_, (ValueKit.view_emb_slice_whole_unit_val main_v2 _ _ _ x 1).trans ?_⟩
  · show cc0_transform_2 (grid0.coords t) 0 * 24576 + _ = _
    rw [(at2 t).1, Nat.mul_comm]
  · show cc0_transform_2 (grid0.coords t) 1 * 128 + _ = _
    rw [(at2 t).2, Nat.zero_mul, Nat.zero_add]

theorem moved0 (t : Fin grid0.N) (k : Fin 64) (p : Fin 24576) (hp : 24576 * t.val + p.val < 1000000) :
    win0_0.moved (grid0.coords t) (ix2 k p) = true := by
  refine (win0_0.moved_iff _ _).mpr fun a => ?_
  have h0 : ∀ t : Fin grid0.N, win0_0.xsize (grid0.coords t) 0 = 64 := by decide
  have h1 : ∀ t : Fin grid0.N, win0_0.xsize (grid0.coords t) 1 = min 24576 (1000000 - 24576 * t.val) := by decide
  match a with
  | ⟨0, _⟩ => rw [show win0_0.xsize (grid0.coords t) ⟨0, _⟩ = _ from h0 t]; exact k.isLt
  | ⟨1, _⟩ =>
    rw [show win0_0.xsize (grid0.coords t) ⟨1, _⟩ = _ from h1 t]
    show p.val < _
    have := p.isLt; omega

theorem size2 : ∀ t : Fin grid0.N, win0_2.xsize (grid0.coords t) 0 = min 24576 (1000000 - 24576 * t.val) ∧ win0_2.xsize (grid0.coords t) 1 = 128 := by decide

/-! ## What the body reads, and what the region leaves -/

section
variable (v0 : (d : Dev nD) → S64x1000000.Idx → EReal) (v1 : (d : Dev nD) → S64x128.Idx → EReal) (v2 : (d : Dev nD) → S1000000x128.Idx → EReal) (d : Dev nD)

theorem fetched0 (t : Fin cfg0.N) (d0) (k : Fin 64) (p : Fin 24576) (hp : 24576 * t.val + p.val < 1000000) :
    (base (F := Ideal) v0 v1 v2 d).fetched 0 t d0 (ix2 k p) = v0 d (ix2 k ⟨24576 * t.val + p.val, hp⟩) := by
  unfold Pipeline.RDat.fetched Pipeline.Window.fill
  rw [dif_pos (moved0 t k p hp)]
  show v0 d ((win0_0.blk t).view.emb _) = _
  refine congrArg (v0 d) (funext fun a => Fin.ext ?_)
  match a with
  | ⟨0, _⟩ => exact (emb0 t _).1
  | ⟨1, _⟩ => exact (emb0 t _).2

theorem fetched1 (t : Fin cfg0.N) (d1) (k : Fin 64) (j : Fin 128) :
    (base (F := Ideal) v0 v1 v2 d).fetched 1 t d1 (ix2 k j) = v1 d (ix2 k j) := by
  show v1 d ((win0_1.blk t).view.emb _) = _
  refine congrArg (v1 d) (funext fun a => Fin.ext ?_)
  match a with
  | ⟨0, _⟩ => exact (emb1 t _).1
  | ⟨1, _⟩ => exact (emb1 t _).2

theorem cfg_N : cfg0.N = 41 := Gen.N_0

theorem arr_rows (t : Nat) (ht : t ≤ 41) : ∀ g : S1000000x128.Idx → EReal, (rd (F := Ideal) v0 v1 v2 d).ArrAt 2 t g → ∀ (i : Fin 1000000) (j : Fin 128), i.val < 24576 * t →
    g (ix2 i j) = Norm.unit (fun k => v0 d (ix2 k i)) (fun j k => v1 d (ix2 k j)) j := by
  induction t with
  | zero => intro g _ i j h; omega
  | succ t ih =>
    intro g hg i j hi
    have hN : t < cfg0.N := lt_of_lt_of_eq ht cfg_N.symm
    have hs := (rd (F := Ideal) v0 v1 v2 d).ArrAt_succ 2 ⟨t, hN⟩
    rw [if_pos (Gen.flush0_2 ⟨t, hN⟩)] at hs
    rw [show (rd (F := Ideal) v0 v1 v2 d).ArrAt 2 (t + 1) = _ from hs] at hg
    obtain ⟨G0, X, hG, ⟨Y, -, d0, d1, rfl⟩, rfl⟩ := hg
    by_cases hlt : i.val < 24576 * t
    · refine (View.write_of_not_mem _ _ _ ?_).trans (ih (by omega) G0 hG i j hlt)
      intro hmem
      obtain ⟨x, -, hx⟩ := Finset.mem_map.mp hmem
      have e : (((win0_2.blk ⟨t, hN⟩).view.emb x 0 : Fin _) : Nat) = i.val := congrArg (fun y : S1000000x128.Idx => (y 0).val) hx
      rw [(emb2 _ x).1] at e
      simp only at e
      omega
    · have hsz := size2 ⟨t, hN⟩
      have hp : i.val - 24576 * t < 24576 := by omega
      have hmin : i.val - 24576 * t < min 24576 (1000000 - 24576 * t) := by have := i.isLt; omega
      let x : (win0_2.xblock (grid0.coords ⟨t, hN⟩)).Idx := fun
        | ⟨0, _⟩ => ⟨i.val - 24576 * t, lt_of_lt_of_eq hmin hsz.1.symm⟩
        | ⟨1, _⟩ => ⟨j.val, lt_of_lt_of_eq j.isLt hsz.2.symm⟩
      have hx : (win0_2.blk ⟨t, hN⟩).view.emb x = (ix2 i j : S1000000x128.Idx) := funext fun a => Fin.ext (by
        match a with
        | ⟨0, _⟩ => exact (emb2 _ x).1.trans (by show 24576 * t + (i.val - 24576 * t) = i.val; omega)
        | ⟨1, _⟩ => exact (emb2 _ x).2)
      have hix : (win0_2.xinj (grid0.coords ⟨t, hN⟩) x) = (ix2 ⟨i.val - 24576 * t, hp⟩ j : S24576x128.Idx) := funext fun a => Fin.ext (by
        match a with
        | ⟨0, _⟩ => rfl
        | ⟨1, _⟩ => rfl)
      have hat : 24576 * t + (i.val - 24576 * t) < 1000000 := by have := i.isLt; omega
      have hii : (⟨24576 * t + (i.val - 24576 * t), hat⟩ : Fin 1000000) = i := Fin.ext (by simp only; omega)
      have hr : ∀ k : Fin 64, (base (F := Ideal) v0 v1 v2 d).fetched 0 ⟨t, hN⟩ d0 (ix2 k ⟨i.val - 24576 * t, hp⟩) = v0 d (ix2 k i) := fun k => by
        rw [fetched0 v0 v1 v2 d ⟨t, hN⟩ d0 k ⟨i.val - 24576 * t, hp⟩ hat]
        exact congrArg (fun y => v0 d (ix2 k y)) hii
      have hw : ∀ (k : Fin 64) (j : Fin 128), (base (F := Ideal) v0 v1 v2 d).fetched 1 ⟨t, hN⟩ d1 (ix2 k j) = v1 d (ix2 k j) := fun k j => fetched1 v0 v1 v2 d ⟨t, hN⟩ d1 k j
      have hv := Payload.pay_apply ((base (F := Ideal) v0 v1 v2 d).fetched 0 ⟨t, hN⟩ d0) ((base (F := Ideal) v0 v1 v2 d).fetched 1 ⟨t, hN⟩ d1) ⟨i.val - 24576 * t, hp⟩ j
      rw [show (fun k => (base (F := Ideal) v0 v1 v2 d).fetched 0 ⟨t, hN⟩ d0 (ix2 k ⟨i.val - 24576 * t, hp⟩)) = _ from funext hr,
        show (fun (j : Fin 128) (k : Fin 64) => (base (F := Ideal) v0 v1 v2 d).fetched 1 ⟨t, hN⟩ d1 (ix2 k j)) = _ from funext fun j => funext fun k => hw k j] at hv
      refine Eq.trans ?_ hv
      rw [← hx, ← hix]
      exact View.write_emb_of_mem _ _ (Finset.mem_univ x)

/-- Every row of the table the region may leave. -/
theorem left_rows (g : S1000000x128.Idx → EReal) (hg : Left (F := Ideal) v0 v1 v2 d g) (i : Fin 1000000) (j : Fin 128) :
    g (ix2 i j) = Norm.unit (fun k => v0 d (ix2 k i)) (fun j k => v1 d (ix2 k j)) j := by
  refine arr_rows v0 v1 v2 d 41 le_rfl g ?_ i j (by have := i.isLt; omega)
  have h : (rd (F := Ideal) v0 v1 v2 d).ArrAt 2 cfg0.N g := hg
  rwa [cfg_N] at h
end

end Cert.Proof.SC

end
-- ==== Proof.RefVal.lean ====
/- The reference's result read at an index, when every word names a row of the table: that row's projection over its
   norm. -/
module

public import proofs.«01_k».proof.Proof.Norm
public import proofs.«01_k».proof.Proof.Gen.ReferenceIdeal.Read
public import Idealize.ShloMosaic.Lib.ReduceAll
public import Idealize.ShloMosaic.Lib.WordCmp
public import Idealize.ShloMosaic.Lib.ValueIdxCore

@[expose] public section

noncomputable section

namespace Cert.Proof.RefVal

open Idealize.ShloMosaic Cert.ReferenceIdeal Cert.ReferenceIdeal.Gen Cert.ReferenceIdeal.Read
open Idealize.ShloMosaic.ValueIdx (ix2 ix3)

/-! ## One word -/

section
variable (v : BitVec 32) (h : v.toNat < 1000000)
include h

theorem word_not_neg : IntOp.cmpi .slt v 0#32 = 0#1 := by
  have e : ¬ v.toInt < (0#32).toInt := by rw [BitVec.toInt_eq_toNat_of_lt (by omega)]; simp
  show BitVec.ofBool (decide (v.toInt < (0#32).toInt)) = 0#1
  rw [decide_eq_false e]; rfl
theorem word_ge : IntOp.cmpi .sge v 0#32 = 1#1 := by
  have e : (0#32).toInt ≤ v.toInt := by rw [BitVec.toInt_eq_toNat_of_lt (x := v) (by omega)]; simp
  show BitVec.ofBool (decide ((0#32).toInt ≤ v.toInt)) = 1#1
  rw [decide_eq_true e]; rfl
theorem word_le : IntOp.cmpi .sle v 999999#32 = 1#1 := by
  have e : v.toInt ≤ (999999#32).toInt := by
    rw [BitVec.toInt_eq_toNat_of_lt (x := v) (by omega), show (999999#32).toInt = 999999 by decide]; omega
  show BitVec.ofBool (decide (v.toInt ≤ (999999#32).toInt)) = 1#1
  rw [decide_eq_true e]; rfl
theorem word_row : min v.toInt.toNat 999999 = v.toNat := by
  rw [BitVec.toInt_eq_toNat_of_lt (by omega)]; simp only [Int.toNat_natCast]; omega
end

/-! ## The lookup -/

/-- The gather's element: row `idx (b, s, 0)`, read signed and kept within the table, of the table's column. -/
theorem gather_apply {α : Type} (x : S1000000x64.Idx → α) (idx : IVec S16384x26x1 32) (b : Fin 16384) (s : Fin 26) (k : Fin 64) :
    Host.gather gather_S1000000x64_S16384x26x1_S16384x26x64_2_0_n_n_0_2_164 x idx (ix3 b s k)
      = x (ix2 ⟨min (idx (ix3 b s 0)).toInt.toNat 999999, by omega⟩ k) := by
  unfold Host.gather
  congr 1
  funext a
  refine Fin.ext ?_
  show gather_S1000000x64_S16384x26x1_S16384x26x64_2_0_n_n_0_2_164.start (ix3 b s k) idx a + gather_S1000000x64_S16384x26x1_S16384x26x64_2_0_n_n_0_2_164.batchCoord (ix3 b s k) a
    + gather_S1000000x64_S16384x26x1_S16384x26x64_2_0_n_n_0_2_164.offCoord (ix3 b s k) a = _
  rw [GatherDims.batchCoord_eq_zero _ _ _ List.not_mem_nil, Nat.add_zero]
  obtain rfl | rfl : a = (0 : Fin 2) ∨ a = (1 : Fin 2) := match a with | ⟨0, _⟩ => Or.inl rfl | ⟨1, _⟩ => Or.inr rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S1000000x64_S16384x26x1_S16384x26x64_2_0_n_n_0_2_164.startIndexMap from List.mem_singleton.mpr rfl)]
    have e : gather_S1000000x64_S16384x26x1_S16384x26x64_2_0_n_n_0_2_164.siIdx (ix3 b s k) ⟨List.idxOf (0 : Fin 2) gather_S1000000x64_S16384x26x1_S16384x26x64_2_0_n_n_0_2_164.startIndexMap,
        List.idxOf_lt_length_iff.2 (List.mem_singleton.mpr rfl)⟩ = ix3 b s 0 := by
      funext c; refine Fin.ext ?_
      match c with
      | ⟨0, _⟩ => rfl
      | ⟨1, _⟩ => rfl
      | ⟨2, _⟩ => rfl
    exact congrArg (fun y => min (idx y).toInt.toNat 999999) e
  · have e : gather_S1000000x64_S16384x26x1_S16384x26x64_2_0_n_n_0_2_164.start (ix3 b s k) idx (1 : Fin 2) = 0 := by
      unfold GatherDims.start; exact dif_neg (by decide)
    rw [e, Nat.zero_add]
    unfold GatherDims.offCoord
    rw [dif_pos (by decide)]
    rfl

variable (x0 : (⟨S16384x26, .i32⟩ : BufTy).Contents (Elt Ideal)) (x1 : (⟨S1000000x64, .f32⟩ : BufTy).Contents (Elt Ideal)) (x2 : (⟨S128x64, .f32⟩ : BufTy).Contents (Elt Ideal))
variable (h : ∀ j : S16384x26.Idx, (x0 j : BitVec 32).toNat < 1000000)
include h

theorem starts (b : Fin 16384) (s : Fin 26) : val_main_call0_v5 (F := Ideal) x0 (ix3 b s 0) = x0 (ix2 b s) := by
  rw [val_main_call0_v5_apply, val_main_call0_v4_apply, val_main_call0_v1_apply, val_main_call0_v0_apply, val_main_call0_c_apply, word_not_neg _ (h _)]
  exact congrArg x0 (funext fun a => match a with | ⟨0, _⟩ => rfl | ⟨1, _⟩ => rfl)

theorem in_table (j : S16384x26.Idx) : val_main_call0_v12 (F := Ideal) x0 j = 1#1 := by
  refine Host.reduce_andi_one _ _ _ _ _ rfl fun i => ?_
  obtain ⟨b, s, z, rfl⟩ : ∃ (b : Fin 16384) (s : Fin 26) (z : Fin 1), i = ix3 b s z := ⟨i 0, i 1, i 2, ValueIdx.eq_ix3 i⟩
  obtain rfl : z = 0 := Subsingleton.elim _ _
  rw [val_main_call0_v11_apply, val_main_call0_v7_apply, val_main_call0_v10_apply, starts x0 h, val_main_call0_v6_apply, val_main_call0_v9_apply, val_main_call0_v8_apply,
    val_main_call0_c_2_apply, val_main_call0_c_1_apply, word_ge _ (h _), word_le _ (h _)]
  rfl

/-- The row of the table one position's word names. -/
def row (b : Fin 16384) (s : Fin 26) : Fin 1000000 := ⟨(x0 (ix2 b s) : BitVec 32).toNat, h _⟩

theorem taken (b : Fin 16384) (s : Fin 26) (k : Fin 64) : val_main_v0 (F := Ideal) x0 x1 (ix3 b s k) = x1 (ix2 (row x0 h b s) k) := by
  rw [val_main_v0_apply, val_main_call0_v14_apply, in_table x0 h]
  show val_main_call0_v13 (F := Ideal) x0 x1 (ix3 b s k) = _
  unfold val_main_call0_v13
  rw [gather_apply]
  refine congrArg (fun r => x1 (ix2 r k)) (Fin.ext ?_)
  show min (val_main_call0_v5 (F := Ideal) x0 (ix3 b s 0) : BitVec 32).toInt.toNat 999999 = (x0 (ix2 b s) : BitVec 32).toNat
  rw [starts x0 h]
  exact word_row _ (h _)

/-! ## The projection and its norm -/

theorem projected (b : Fin 16384) (s : Fin 26) (j : Fin 128) :
    val_main_v2 (F := Ideal) x0 x1 x2 (ix3 b s j) = Norm.proj (fun k => x1 (ix2 (row x0 h b s) k)) (fun j k => x2 (ix2 j k)) j := by
  rw [val_main_v2_apply]
  refine Finset.sum_congr rfl fun k _ => congrArg₂ (fun a b : EReal => a * b) ?_ ?_
  · rw [show lidx_main_v2 (ix3 b s j) k = ix3 b s k from funext fun a => match a with | ⟨0, _⟩ => rfl | ⟨1, _⟩ => rfl | ⟨2, _⟩ => rfl]
    exact taken x0 x1 h b s k
  · rw [val_main_v1_apply]
    exact congrArg x2 (funext fun a => match a with | ⟨0, _⟩ => rfl | ⟨1, _⟩ => rfl)

theorem squares (b : Fin 16384) (s : Fin 26) :
    val_main_call1_v1 (F := Ideal) x0 x1 x2 (ix2 b s) = Norm.sq (fun k => x1 (ix2 (row x0 h b s) k)) (fun j k => x2 (ix2 j k)) := by
  rw [val_main_call1_v1_apply]
  have z : val_main_call1_cst (F := Ideal) (Shape.Idx.first h_S_) = (0 : EReal) := Ideal.ofBits_zero_f32
  rw [z, zero_add]
  refine Finset.sum_congr rfl fun j _ => ?_
  rw [val_main_call1_v0_apply, show idx_main_call1_v1 (ix2 b s) j = ix3 b s j from funext fun a => match a with | ⟨0, _⟩ => rfl | ⟨1, _⟩ => rfl | ⟨2, _⟩ => rfl,
    projected x0 x1 x2 h]
  rfl

/-- One element of the reference's result. -/
theorem result (b : Fin 16384) (s : Fin 26) (j : Fin 128) :
    val_main_v7 (F := Ideal) x0 x1 x2 (ix3 b s j) = Norm.unit (fun k => x1 (ix2 (row x0 h b s) k)) (fun j k => x2 (ix2 j k)) j := by
  have e : val_main_v6 (F := Ideal) x0 x1 x2 (ix3 b s j) = (max (Ideal.sqrt (Norm.sq (fun k => x1 (ix2 (row x0 h b s) k)) (fun j k => x2 (ix2 j k)))) Norm.clamp : EReal) := by
    rw [val_main_v6_apply, val_main_v5_apply, val_main_v3_apply, val_main_call1_v2_apply, val_main_v4_apply, val_main_cst_apply,
      show idx_main_call1_v2 (idx_main_v6 (ix3 b s j)) = ix2 b s from funext fun a => match a with | ⟨0, _⟩ => rfl | ⟨1, _⟩ => rfl,
      squares x0 x1 x2 h]
    rfl
  rw [val_main_v7_apply, e, projected x0 x1 x2 h]
  rfl

end Cert.Proof.RefVal

end
-- ==== Proof.Value.lean ====
/- The kernel's result against the reference's, over the extended reals. -/
module

public import proofs.«01_k».proof.Proof.Frames
public import proofs.«01_k».proof.Proof.Rows
public import proofs.«01_k».proof.Proof.RefVal

@[expose] public section

noncomputable section

namespace Cert.Proof

open Idealize.ShloMosaic Idealize.SL.Sem Cert.KernelIdeal
open Idealize.ShloMosaic.ValueIdx (ix2 ix3)

/-! ## Where the host's reorderings take an element from -/

section
variable (m : (ℓ : Loc nD τ sig) → Buf (Elt Ideal) ℓ) (d : Dev nD)

theorem tabT_apply (k : Fin 64) (i : Fin 1000000) : SC.tabT m d (ix2 k i) = (SC.V0 m d SC.r1 : S1000000x64.Idx → EReal) (ix2 i k) :=
  transpose_apply _ _ _ _ _ fun b => match b with | ⟨0, _⟩ => rfl | ⟨1, _⟩ => rfl

theorem projT_apply (k : Fin 64) (j : Fin 128) : SC.projT m d (ix2 k j) = (SC.V0 m d SC.r2 : S128x64.Idx → EReal) (ix2 j k) :=
  transpose_apply _ _ _ _ _ fun b => match b with | ⟨0, _⟩ => rfl | ⟨1, _⟩ => rfl

theorem words_apply (r : Fin 3328) (l : Fin 128) (b : Fin 16384) (s : Fin 26) (h : r.val * 128 + l.val = s.val * 16384 + b.val) :
    SC.words m d (ix2 r l) = (SC.V0 m d SC.r0 : S16384x26.Idx → BitVec 32) (ix2 b s) := by
  unfold SC.words
  refine (shapeCast_apply _ _ _ (ix2 s b : S26x16384.Idx) ?_).trans (transpose_apply _ _ _ _ _ fun a => match a with | ⟨0, _⟩ => rfl | ⟨1, _⟩ => rfl)
  rw [Shape.rowMajor_val_two, Shape.rowMajor_val_two]
  exact h.symm

theorem outOf_apply (f : S425984x128.Idx → EReal) (b : Fin 16384) (s : Fin 26) (j : Fin 128) (p : Fin 425984) (h : p.val = s.val * 16384 + b.val) :
    SC.outOf (F := Ideal) f (ix3 b s j) = f (ix2 p j) := by
  unfold SC.outOf
  refine (transpose_apply _ _ _ _ (ix3 s b j : S26x16384x128.Idx) fun a => match a with | ⟨0, _⟩ => rfl | ⟨1, _⟩ => rfl | ⟨2, _⟩ => rfl).trans (shapeCast_apply _ _ _ _ ?_)
  rw [Shape.rowMajor_val_two, Shape.rowMajor_val_three]
  show p.val * 128 + j.val = (s.val * 16384 + b.val) * 128 + j.val
  rw [h]
end

/-! ## The result -/

/-- Whatever rows the projection left and the gather took, the result is the reference's. -/
theorem value (m : (ℓ : Loc nD τ sig) → Buf (Elt Ideal) ℓ) (d : Dev nD)
    (hx : ∀ j : S16384x26.Idx, ((SC.V0 m d SC.r0 : S16384x26.Idx → BitVec 32) j).toNat < 1000000)
    (f : S425984x128.Idx → EReal) (hf : SC.Good (F := Ideal) m d f) :
    SC.outOf (F := Ideal) f = Cert.ReferenceIdeal.Read.val_main_v7 (F := Ideal) (SC.V0 m d SC.r0) (SC.V0 m d SC.r1) (SC.V0 m d SC.r2) := by
  funext y
  obtain ⟨b, s, j, rfl⟩ : ∃ (b : Fin 16384) (s : Fin 26) (j : Fin 128), y = (ix3 b s j : S16384x26x128.Idx) := ⟨y 0, y 1, y 2, ValueIdx.eq_ix3 y⟩
  have hp : s.val * 16384 + b.val < 425984 := by have := s.isLt; have := b.isLt; omega
  obtain ⟨g, hg, e⟩ := hf (ix2 ⟨s.val * 16384 + b.val, hp⟩ j)
  rw [outOf_apply f b s j ⟨_, hp⟩ rfl, e]
  have hword : SC.words m d (ix2 ⟨(s.val * 16384 + b.val) / 128, by omega⟩ ⟨(s.val * 16384 + b.val) % 128, Nat.mod_lt _ (by decide)⟩)
      = (SC.V0 m d SC.r0 : S16384x26.Idx → BitVec 32) (ix2 b s) := words_apply m d _ _ b s (Nat.div_add_mod' _ _)
  have hrow : SC.want (F := Ideal) (SC.words m d) g (ix2 ⟨s.val * 16384 + b.val, hp⟩ j) = g (ix2 (Cert.Proof.RefVal.row (SC.V0 m d SC.r0) hx b s) j) := by
    unfold SC.want
    refine congrArg g (funext fun a => ?_)
    match a with
    | ⟨0, _⟩ =>
      refine Fin.ext ?_
      show (SC.words m d _).toNat % 1000000 = ((SC.V0 m d SC.r0 : S16384x26.Idx → BitVec 32) (ix2 b s)).toNat
      rw [← Nat.mod_eq_of_lt (hx (ix2 b s)), ← hword]
      refine congrArg (fun q => (SC.words m d q).toNat % 1000000) (funext fun c => ?_)
      match c with
      | ⟨0, _⟩ => rfl
      | ⟨1, _⟩ => rfl
    | ⟨1, _⟩ => rfl
  rw [hrow]
  have hl := SC.left_rows (SC.tabT m) (SC.projT m) (SC.tab0 m) d g hg (Cert.Proof.RefVal.row (SC.V0 m d SC.r0) hx b s) j
  refine hl.trans (Eq.trans ?_ (Cert.Proof.RefVal.result (SC.V0 m d SC.r0) (SC.V0 m d SC.r1) (SC.V0 m d SC.r2) hx b s j).symm)
  exact congrArg₂ (fun x w => Norm.unit x w j) (funext fun k => tabT_apply m d k _) (funext fun i => funext fun k => projT_apply m d k i)

theorem algebraic : Cert.algebraic_KernelIdeal_ReferenceIdeal := fun m g m' g' hpre hagree =>
  ⟨fun c => Cert.ReferenceIdeal.Read.val_main_v7 (F := Ideal) (SC.V0 m c SC.r0) (SC.V0 m c SC.r1) (SC.V0 m c SC.r2),
    (θ_run Cert.KernelIdeal.defs _ _).mono
      (fun _ h c => by
        obtain ⟨f, hf, e⟩ := (h.1 c).2.2.2
        exact ⟨Eq.trans e (value m c (fun j => range_of_rows _ _ _ (hpre c) j) f hf), (h.1 c).1, (h.1 c).2.1, (h.1 c).2.2.1⟩)
      (frame_ideal_of m g fun d j => range_of_rows _ _ _ (hpre d) j),
    (θ_run Cert.ReferenceIdeal.defs _ _).mono
      (fun _ h c => ⟨((h c).1.trans (Cert.ReferenceIdeal.Read.val_main_v7_eq m' c)).trans (by
        rw [(hagree c).1, (hagree c).2.1, (hagree c).2.2]; rfl), (h c).2⟩)
      (Cert.ReferenceIdeal.Value.run (F := Ideal) m' g')⟩

end Cert.Proof

end
-- ==== Proof.lean ====
/- The certificate: the programs' frames, the named constant, and the kernel's result against the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.Reference.Gen.facts, Cert.ReferenceIdeal.Gen.facts, rows_facts,
  frame_kernel, frame_ideal, frame_reference_bits, frame_reference, frame_reference_rows, preserves, algebraic⟩

end Cert.Proof

end
